-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_expert_named_KernelIdeal [hPre_expert_named_KernelIdeal : Cert.Pre_expert_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_expert_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_expert_named_ReferenceIdeal [hPre_expert_named_ReferenceIdeal : Cert.Pre_expert_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_expert_named_KernelIdeal [hKernelIdeal : Cert.KernelIdeal.Facts] [hPre_expert_named_KernelIdeal : Cert.Pre_expert_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_expert_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_expert_named_ReferenceIdeal [hReferenceIdeal : Cert.ReferenceIdeal.Facts] [hPre_expert_named_ReferenceIdeal : Cert.Pre_expert_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_expert_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_expert_named_KernelIdeal [hKernelIdeal : Cert.KernelIdeal.Facts] [hReferenceIdeal : Cert.ReferenceIdeal.Facts] [hPre_expert_named_KernelIdeal : Cert.Pre_expert_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_expert_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8, 256]⟩ ⟨2, ![256, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_expert_named_KernelIdeal : Cert.Pre_expert_named_KernelIdeal.Facts) (hPre_expert_named_ReferenceIdeal : Cert.Pre_expert_named_ReferenceIdeal.Facts),
    quiescent_Kernel (hKernel := hKernel)
    ∧ quiescent_KernelIdeal (hKernelIdeal := hKernelIdeal)
    ∧ quiescent_KernelIdeal_pre_expert_named_KernelIdeal (hKernelIdeal := hKernelIdeal) (hPre_expert_named_KernelIdeal := hPre_expert_named_KernelIdeal)
    ∧ quiescent_ReferenceIdeal (hReferenceIdeal := hReferenceIdeal)
    ∧ quiescent_ReferenceIdeal_pre_expert_named_ReferenceIdeal (hReferenceIdeal := hReferenceIdeal) (hPre_expert_named_ReferenceIdeal := hPre_expert_named_ReferenceIdeal)
    ∧ preserves_Kernel_KernelIdeal
    ∧ algebraic_KernelIdeal_ReferenceIdeal_pre_expert_named_KernelIdeal (hKernelIdeal := hKernelIdeal) (hReferenceIdeal := hReferenceIdeal) (hPre_expert_named_KernelIdeal := hPre_expert_named_KernelIdeal)
-- ==== Pre_expert_named_KernelIdeal.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x1 : S_.BroadcastsInDim S256x1 (![] : Fin 0 → Fin S256x1.rank)

variable [Facts]

def fn {F : FTy → Type} [FloatOps F] (main_arg0 : FVec F S256x128 .bf16) (main_arg1 : FVec F S128x64 .bf16) (main_arg2 : IVec S256x1 32) (main_arg3 : FVec F S2x128x256 .bf16) (main_arg4 : FVec F S128x256 .bf16) : IVec S256x1 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 63#32
  let main_v2 : IVec S256x1 32 := broadcastInDim S256x1 ![] bcast_S_S256x1 main_c_0
  let main_v3 : IVec S256x1 1 := cmpi .sle main_arg2 main_v2
  let main_v4 : IVec S256x1 1 := andi main_v1 main_v3
  main_v4
-- ==== Pre_expert_named_ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S128x256 : Shape := ⟨2, ![128, 256]⟩
abbrev S_ : Shape := ⟨0, ![]⟩

class Facts : Prop where
  bcast_S_S256x1 : S_.BroadcastsInDim S256x1 (![] : Fin 0 → Fin S256x1.rank)

variable [Facts]

def fn {F : FTy → Type} [FloatOps F] (main_arg0 : FVec F S256x128 .bf16) (main_arg1 : FVec F S128x64 .bf16) (main_arg2 : IVec S256x1 32) (main_arg3 : FVec F S64x128x256 .bf16) (main_arg4 : FVec F S128x256 .bf16) : IVec S256x1 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 63#32
  let main_v2 : IVec S256x1 32 := broadcastInDim S256x1 ![] bcast_S_S256x1 main_c_0
  let main_v3 : IVec S256x1 1 := cmpi .sle main_arg2 main_v2
  let main_v4 : IVec S256x1 1 := andi main_v1 main_v3
  main_v4
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S128x256 : Shape := ⟨2, ![128, 256]⟩
abbrev S8x256 : Shape := ⟨2, ![8, 256]⟩
abbrev S32x8x256 : Shape := ⟨3, ![32, 8, 256]⟩
abbrev S32 : Shape := ⟨1, ![32]⟩
abbrev S_ : Shape := ⟨0, ![]⟩
abbrev S256x64 : Shape := ⟨2, ![256, 64]⟩
abbrev S256 : Shape := ⟨1, ![256]⟩
abbrev S256x256 : Shape := ⟨2, ![256, 256]⟩
abbrev S1x128x256 : Shape := ⟨3, ![1, 128, 256]⟩
abbrev S1 : Shape := ⟨1, ![1]⟩
abbrev S1x8x256 : Shape := ⟨3, ![1, 8, 256]⟩
abbrev S8x128 : Shape := ⟨2, ![8, 128]⟩
abbrev S31x8x256 : Shape := ⟨3, ![31, 8, 256]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S8x256, .f32⟩
  | .local _ .vmem, ⟨0, _⟩ => ⟨S256x128, .bf16⟩
  | .local _ .vmem, ⟨1, _⟩ => ⟨S128x64, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S8x256, .f32⟩
  | .local _ .vmem, ⟨6, _⟩ => ⟨S32x8x256, .bf16⟩
  | .local _ .vmem, ⟨7, _⟩ => ⟨S32x8x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_153 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v187 : BitVec 32 := Scalar.addi v2 c1_i32_153
  let c32_i32_154 : BitVec 32 := 32#32
  let v188 : BitVec 32 := Scalar.remsi v187 c32_i32_154
  let c0_i32_162 : BitVec 32 := 0#32
  let c0_i32_163 : BitVec 32 := 0#32
  ![v188.toNat, 0, 0]
def k0_dev32 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_153 : BitVec 32 := 1#32
  let v187 : BitVec 32 := Scalar.addi v2 c1_i32_153
  let c32_i32_154 : BitVec 32 := 32#32
  let v188 : BitVec 32 := Scalar.remsi v187 c32_i32_154
  let c1_i32_158 : BitVec 32 := 1#32
  let v189 : BitVec 32 := Scalar.muli v188 c1_i32_158
  let v190 : BitVec 32 := Scalar.addi c0_i32_159 v189
  v190.toNat
def k0_dev33 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_164 : BitVec 32 := 2#32
  let v199 : BitVec 32 := Scalar.addi v2 c2_i32_164
  let c32_i32_165 : BitVec 32 := 32#32
  let v200 : BitVec 32 := Scalar.remsi v199 c32_i32_165
  let c1_i32_169 : BitVec 32 := 1#32
  let v201 : BitVec 32 := Scalar.muli v200 c1_i32_169
  let v202 : BitVec 32 := Scalar.addi c0_i32_170 v201
  v202.toNat
def k0_dev34 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_175 : BitVec 32 := 3#32
  let v211 : BitVec 32 := Scalar.addi v2 c3_i32_175
  let c32_i32_176 : BitVec 32 := 32#32
  let v212 : BitVec 32 := Scalar.remsi v211 c32_i32_176
  let c1_i32_180 : BitVec 32 := 1#32
  let v213 : BitVec 32 := Scalar.muli v212 c1_i32_180
  let v214 : BitVec 32 := Scalar.addi c0_i32_181 v213
  v214.toNat
def k0_dev35 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_186 : BitVec 32 := 4#32
  let v223 : BitVec 32 := Scalar.addi v2 c4_i32_186
  let c32_i32_187 : BitVec 32 := 32#32
  let v224 : BitVec 32 := Scalar.remsi v223 c32_i32_187
  let c1_i32_191 : BitVec 32 := 1#32
  let v225 : BitVec 32 := Scalar.muli v224 c1_i32_191
  let v226 : BitVec 32 := Scalar.addi c0_i32_192 v225
  v226.toNat
def k0_dev36 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_197 : BitVec 32 := 5#32
  let v235 : BitVec 32 := Scalar.addi v2 c5_i32_197
  let c32_i32_198 : BitVec 32 := 32#32
  let v236 : BitVec 32 := Scalar.remsi v235 c32_i32_198
  let c1_i32_202 : BitVec 32 := 1#32
  let v237 : BitVec 32 := Scalar.muli v236 c1_i32_202
  let v238 : BitVec 32 := Scalar.addi c0_i32_203 v237
  v238.toNat
def k0_dev37 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_208 : BitVec 32 := 6#32
  let v247 : BitVec 32 := Scalar.addi v2 c6_i32_208
  let c32_i32_209 : BitVec 32 := 32#32
  let v248 : BitVec 32 := Scalar.remsi v247 c32_i32_209
  let c1_i32_213 : BitVec 32 := 1#32
  let v249 : BitVec 32 := Scalar.muli v248 c1_i32_213
  let v250 : BitVec 32 := Scalar.addi c0_i32_214 v249
  v250.toNat
def k0_dev38 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_219 : BitVec 32 := 7#32
  let v259 : BitVec 32 := Scalar.addi v2 c7_i32_219
  let c32_i32_220 : BitVec 32 := 32#32
  let v260 : BitVec 32 := Scalar.remsi v259 c32_i32_220
  let c1_i32_224 : BitVec 32 := 1#32
  let v261 : BitVec 32 := Scalar.muli v260 c1_i32_224
  let v262 : BitVec 32 := Scalar.addi c0_i32_225 v261
  v262.toNat
def k0_dev39 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_230 : BitVec 32 := 8#32
  let v271 : BitVec 32 := Scalar.addi v2 c8_i32_230
  let c32_i32_231 : BitVec 32 := 32#32
  let v272 : BitVec 32 := Scalar.remsi v271 c32_i32_231
  let c1_i32_235 : BitVec 32 := 1#32
  let v273 : BitVec 32 := Scalar.muli v272 c1_i32_235
  let v274 : BitVec 32 := Scalar.addi c0_i32_236 v273
  v274.toNat
def k0_dev40 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_241 : BitVec 32 := 9#32
  let v283 : BitVec 32 := Scalar.addi v2 c9_i32_241
  let c32_i32_242 : BitVec 32 := 32#32
  let v284 : BitVec 32 := Scalar.remsi v283 c32_i32_242
  let c1_i32_246 : BitVec 32 := 1#32
  let v285 : BitVec 32 := Scalar.muli v284 c1_i32_246
  let v286 : BitVec 32 := Scalar.addi c0_i32_247 v285
  v286.toNat
def k0_dev41 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_252 : BitVec 32 := 10#32
  let v295 : BitVec 32 := Scalar.addi v2 c10_i32_252
  let c32_i32_253 : BitVec 32 := 32#32
  let v296 : BitVec 32 := Scalar.remsi v295 c32_i32_253
  let c1_i32_257 : BitVec 32 := 1#32
  let v297 : BitVec 32 := Scalar.muli v296 c1_i32_257
  let v298 : BitVec 32 := Scalar.addi c0_i32_258 v297
  v298.toNat
def k0_dev42 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_263 : BitVec 32 := 11#32
  let v307 : BitVec 32 := Scalar.addi v2 c11_i32_263
  let c32_i32_264 : BitVec 32 := 32#32
  let v308 : BitVec 32 := Scalar.remsi v307 c32_i32_264
  let c1_i32_268 : BitVec 32 := 1#32
  let v309 : BitVec 32 := Scalar.muli v308 c1_i32_268
  let v310 : BitVec 32 := Scalar.addi c0_i32_269 v309
  v310.toNat
def k0_dev43 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_274 : BitVec 32 := 12#32
  let v319 : BitVec 32 := Scalar.addi v2 c12_i32_274
  let c32_i32_275 : BitVec 32 := 32#32
  let v320 : BitVec 32 := Scalar.remsi v319 c32_i32_275
  let c1_i32_279 : BitVec 32 := 1#32
  let v321 : BitVec 32 := Scalar.muli v320 c1_i32_279
  let v322 : BitVec 32 := Scalar.addi c0_i32_280 v321
  v322.toNat
def k0_dev44 (d0 : Dev nD) : Nat :=
  let c0_i32_291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_285 : BitVec 32 := 13#32
  let v331 : BitVec 32 := Scalar.addi v2 c13_i32_285
  let c32_i32_286 : BitVec 32 := 32#32
  let v332 : BitVec 32 := Scalar.remsi v331 c32_i32_286
  let c1_i32_290 : BitVec 32 := 1#32
  let v333 : BitVec 32 := Scalar.muli v332 c1_i32_290
  let v334 : BitVec 32 := Scalar.addi c0_i32_291 v333
  v334.toNat
def k0_dev45 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_296 : BitVec 32 := 14#32
  let v343 : BitVec 32 := Scalar.addi v2 c14_i32_296
  let c32_i32_297 : BitVec 32 := 32#32
  let v344 : BitVec 32 := Scalar.remsi v343 c32_i32_297
  let c1_i32_301 : BitVec 32 := 1#32
  let v345 : BitVec 32 := Scalar.muli v344 c1_i32_301
  let v346 : BitVec 32 := Scalar.addi c0_i32_302 v345
  v346.toNat
def k0_dev46 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_307 : BitVec 32 := 15#32
  let v355 : BitVec 32 := Scalar.addi v2 c15_i32_307
  let c32_i32_308 : BitVec 32 := 32#32
  let v356 : BitVec 32 := Scalar.remsi v355 c32_i32_308
  let c1_i32_312 : BitVec 32 := 1#32
  let v357 : BitVec 32 := Scalar.muli v356 c1_i32_312
  let v358 : BitVec 32 := Scalar.addi c0_i32_313 v357
  v358.toNat
def k0_dev47 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_318 : BitVec 32 := 16#32
  let v367 : BitVec 32 := Scalar.addi v2 c16_i32_318
  let c32_i32_319 : BitVec 32 := 32#32
  let v368 : BitVec 32 := Scalar.remsi v367 c32_i32_319
  let c1_i32_323 : BitVec 32 := 1#32
  let v369 : BitVec 32 := Scalar.muli v368 c1_i32_323
  let v370 : BitVec 32 := Scalar.addi c0_i32_324 v369
  v370.toNat
def k0_dev48 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_329 : BitVec 32 := 17#32
  let v379 : BitVec 32 := Scalar.addi v2 c17_i32_329
  let c32_i32_330 : BitVec 32 := 32#32
  let v380 : BitVec 32 := Scalar.remsi v379 c32_i32_330
  let c1_i32_334 : BitVec 32 := 1#32
  let v381 : BitVec 32 := Scalar.muli v380 c1_i32_334
  let v382 : BitVec 32 := Scalar.addi c0_i32_335 v381
  v382.toNat
def k0_dev49 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_340 : BitVec 32 := 18#32
  let v391 : BitVec 32 := Scalar.addi v2 c18_i32_340
  let c32_i32_341 : BitVec 32 := 32#32
  let v392 : BitVec 32 := Scalar.remsi v391 c32_i32_341
  let c1_i32_345 : BitVec 32 := 1#32
  let v393 : BitVec 32 := Scalar.muli v392 c1_i32_345
  let v394 : BitVec 32 := Scalar.addi c0_i32_346 v393
  v394.toNat
def k0_dev50 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_351 : BitVec 32 := 19#32
  let v403 : BitVec 32 := Scalar.addi v2 c19_i32_351
  let c32_i32_352 : BitVec 32 := 32#32
  let v404 : BitVec 32 := Scalar.remsi v403 c32_i32_352
  let c1_i32_356 : BitVec 32 := 1#32
  let v405 : BitVec 32 := Scalar.muli v404 c1_i32_356
  let v406 : BitVec 32 := Scalar.addi c0_i32_357 v405
  v406.toNat
def k0_dev51 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_362 : BitVec 32 := 20#32
  let v415 : BitVec 32 := Scalar.addi v2 c20_i32_362
  let c32_i32_363 : BitVec 32 := 32#32
  let v416 : BitVec 32 := Scalar.remsi v415 c32_i32_363
  let c1_i32_367 : BitVec 32 := 1#32
  let v417 : BitVec 32 := Scalar.muli v416 c1_i32_367
  let v418 : BitVec 32 := Scalar.addi c0_i32_368 v417
  v418.toNat
def k0_dev52 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_373 : BitVec 32 := 21#32
  let v427 : BitVec 32 := Scalar.addi v2 c21_i32_373
  let c32_i32_374 : BitVec 32 := 32#32
  let v428 : BitVec 32 := Scalar.remsi v427 c32_i32_374
  let c1_i32_378 : BitVec 32 := 1#32
  let v429 : BitVec 32 := Scalar.muli v428 c1_i32_378
  let v430 : BitVec 32 := Scalar.addi c0_i32_379 v429
  v430.toNat
def k0_dev53 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_384 : BitVec 32 := 22#32
  let v439 : BitVec 32 := Scalar.addi v2 c22_i32_384
  let c32_i32_385 : BitVec 32 := 32#32
  let v440 : BitVec 32 := Scalar.remsi v439 c32_i32_385
  let c1_i32_389 : BitVec 32 := 1#32
  let v441 : BitVec 32 := Scalar.muli v440 c1_i32_389
  let v442 : BitVec 32 := Scalar.addi c0_i32_390 v441
  v442.toNat
def k0_dev54 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_395 : BitVec 32 := 23#32
  let v451 : BitVec 32 := Scalar.addi v2 c23_i32_395
  let c32_i32_396 : BitVec 32 := 32#32
  let v452 : BitVec 32 := Scalar.remsi v451 c32_i32_396
  let c1_i32_400 : BitVec 32 := 1#32
  let v453 : BitVec 32 := Scalar.muli v452 c1_i32_400
  let v454 : BitVec 32 := Scalar.addi c0_i32_401 v453
  v454.toNat
def k0_dev55 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_406 : BitVec 32 := 24#32
  let v463 : BitVec 32 := Scalar.addi v2 c24_i32_406
  let c32_i32_407 : BitVec 32 := 32#32
  let v464 : BitVec 32 := Scalar.remsi v463 c32_i32_407
  let c1_i32_411 : BitVec 32 := 1#32
  let v465 : BitVec 32 := Scalar.muli v464 c1_i32_411
  let v466 : BitVec 32 := Scalar.addi c0_i32_412 v465
  v466.toNat
def k0_dev56 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_417 : BitVec 32 := 25#32
  let v475 : BitVec 32 := Scalar.addi v2 c25_i32_417
  let c32_i32_418 : BitVec 32 := 32#32
  let v476 : BitVec 32 := Scalar.remsi v475 c32_i32_418
  let c1_i32_422 : BitVec 32 := 1#32
  let v477 : BitVec 32 := Scalar.muli v476 c1_i32_422
  let v478 : BitVec 32 := Scalar.addi c0_i32_423 v477
  v478.toNat
def k0_dev57 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_428 : BitVec 32 := 26#32
  let v487 : BitVec 32 := Scalar.addi v2 c26_i32_428
  let c32_i32_429 : BitVec 32 := 32#32
  let v488 : BitVec 32 := Scalar.remsi v487 c32_i32_429
  let c1_i32_433 : BitVec 32 := 1#32
  let v489 : BitVec 32 := Scalar.muli v488 c1_i32_433
  let v490 : BitVec 32 := Scalar.addi c0_i32_434 v489
  v490.toNat
def k0_dev58 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_439 : BitVec 32 := 27#32
  let v499 : BitVec 32 := Scalar.addi v2 c27_i32_439
  let c32_i32_440 : BitVec 32 := 32#32
  let v500 : BitVec 32 := Scalar.remsi v499 c32_i32_440
  let c1_i32_444 : BitVec 32 := 1#32
  let v501 : BitVec 32 := Scalar.muli v500 c1_i32_444
  let v502 : BitVec 32 := Scalar.addi c0_i32_445 v501
  v502.toNat
def k0_dev59 (d0 : Dev nD) : Nat :=
  let c0_i32_456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_450 : BitVec 32 := 28#32
  let v511 : BitVec 32 := Scalar.addi v2 c28_i32_450
  let c32_i32_451 : BitVec 32 := 32#32
  let v512 : BitVec 32 := Scalar.remsi v511 c32_i32_451
  let c1_i32_455 : BitVec 32 := 1#32
  let v513 : BitVec 32 := Scalar.muli v512 c1_i32_455
  let v514 : BitVec 32 := Scalar.addi c0_i32_456 v513
  v514.toNat
def k0_dev60 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_461 : BitVec 32 := 29#32
  let v523 : BitVec 32 := Scalar.addi v2 c29_i32_461
  let c32_i32_462 : BitVec 32 := 32#32
  let v524 : BitVec 32 := Scalar.remsi v523 c32_i32_462
  let c1_i32_466 : BitVec 32 := 1#32
  let v525 : BitVec 32 := Scalar.muli v524 c1_i32_466
  let v526 : BitVec 32 := Scalar.addi c0_i32_467 v525
  v526.toNat
def k0_dev61 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_472 : BitVec 32 := 30#32
  let v535 : BitVec 32 := Scalar.addi v2 c30_i32_472
  let c32_i32_473 : BitVec 32 := 32#32
  let v536 : BitVec 32 := Scalar.remsi v535 c32_i32_473
  let c1_i32_477 : BitVec 32 := 1#32
  let v537 : BitVec 32 := Scalar.muli v536 c1_i32_477
  let v538 : BitVec 32 := Scalar.addi c0_i32_478 v537
  v538.toNat
def k0_dev62 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_483 : BitVec 32 := 31#32
  let v547 : BitVec 32 := Scalar.addi v2 c31_i32_483
  let c32_i32_484 : BitVec 32 := 32#32
  let v548 : BitVec 32 := Scalar.remsi v547 c32_i32_484
  let c1_i32_488 : BitVec 32 := 1#32
  let v549 : BitVec 32 := Scalar.muli v548 c1_i32_488
  let v550 : BitVec 32 := Scalar.addi c0_i32_489 v549
  v550.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_494 : BitVec 32 := 8#32
  let v559 : BitVec 32 := Scalar.muli v2 c8_i32_494
  let v560 : Index := Scalar.indexCast v559
  let c0_495 : Index := 0#32
  ![v560.toNat, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v566 : Index := Scalar.indexCast v2
  let c0_499 : Index := 0#32
  let c0_500 : Index := 0#32
  ![v566.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S128x256 : Shape := ⟨2, ![128, 256]⟩
abbrev S256x64 : Shape := ⟨2, ![256, 64]⟩
abbrev S_ : Shape := ⟨0, ![]⟩
abbrev S256 : Shape := ⟨1, ![256]⟩
abbrev S256x256 : Shape := ⟨2, ![256, 256]⟩
abbrev S256x2 : Shape := ⟨2, ![256, 2]⟩
abbrev S256x128x256 : Shape := ⟨3, ![256, 128, 256]⟩

abbrev nBuf : Space → Nat
  | .hbm => 56
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S64x128x256, .bf16⟩
  | .hbm, ⟨4, _⟩ => ⟨S128x256, .bf16⟩
  | .hbm, ⟨5, _⟩ => ⟨S256x128, .f32⟩
  | .hbm, ⟨6, _⟩ => ⟨S128x64, .f32⟩
  | .hbm, ⟨7, _⟩ => ⟨S64x128x256, .f32⟩
  | .hbm, ⟨8, _⟩ => ⟨S128x256, .f32⟩
  | .hbm, ⟨9, _⟩ => ⟨S256x64, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x64, .f32⟩
  | .hbm, ⟨14, _⟩ => ⟨S256x64, .f32⟩
  | .hbm, ⟨15, _⟩ => ⟨S256x64, .f32⟩
  | .hbm, ⟨16, _⟩ => ⟨S_, .f32⟩
  | .hbm, ⟨17, _⟩ => ⟨S256, .f32⟩
  | .hbm, ⟨18, _⟩ => ⟨S256x1, .f32⟩
  | .hbm, ⟨19, _⟩ => ⟨S256x64, .f32⟩
  | .hbm, ⟨20, _⟩ => ⟨S256x64, .f32⟩
  | .hbm, ⟨21, _⟩ => ⟨S256x256, .f32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S256x1, .i32⟩
  | .hbm, ⟨39, _⟩ => ⟨S256x1, .i32⟩
  | .hbm, ⟨40, _⟩ => ⟨S256x2, .i32⟩
  | .hbm, ⟨41, _⟩ => ⟨S256, .f32⟩
  | .hbm, ⟨42, _⟩ => ⟨S256x1, .f32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S_, .i32⟩
  | .hbm, ⟨47, _⟩ => ⟨S256, .i32⟩
  | .hbm, ⟨48, _⟩ => ⟨S256, .i32⟩
  | .hbm, ⟨49, _⟩ => ⟨S256, .i32⟩
  | .hbm, ⟨50, _⟩ => ⟨S256x1, .i32⟩
  | .hbm, ⟨51, _⟩ => ⟨S256x128x256, .f32⟩
  | .hbm, ⟨52, _⟩ => ⟨S256x256, .f32⟩
  | .hbm, ⟨53, _⟩ => ⟨S256x256, .f32⟩
  | .hbm, ⟨54, _⟩ => ⟨S256x256, .f32⟩
  | .hbm, ⟨55, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_c_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.ProtoKernelIdeal.lean ====
/-
The protocol of the all-to-all exchange, as a schedule of rounds.

Thirty-two devices hold two experts each. A device computes, for every row of the batch, its two experts' share of the
result (`partAt`: thirty-two blocks of eight rows), sends block `p` of it to device `p`, and adds up the blocks it
receives. Device `c` reaches device `c + d` (modulo 32) at OFFSET `d`, for every `d ≠ 0`:

* `c` signals the barrier semaphore of `c + d`. With this signal it hands over the slot of its receive buffer that
  `c + d` will write: the slot `-d`, since `c` is `c + d`'s device at offset `-d`.
* `c` waits for 31 on its own barrier. It now holds, for every `d ≠ 0`, slot `d` of device `c + d`'s receive buffer.
* `c` sends block `c + d` of its partial result to slot `d` of device `c + d`. Its own send semaphore `d` gives the block
  back when it has been read; `c + d`'s receive semaphore `d` gives `c + d` the slot when it has been written.
* `c` waits on its receive semaphores `1 … 31`, adds up the slots, and waits on its send semaphores `1 … 31`.

There is one round. A barrier cell has the 31 duties `d ≠ 0`, of one unit each; a send or receive cell at offset `d ≠ 0`
has the single duty `0`, of the amount of one block; the two cells at offset 0 have none and are never touched.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Offsets -/

/-- The device at offset `d` after device `c`. -/
def fwd (c : Dev nD) (d : Fin 32) : Dev nD := ⟨(c.val + d.val) % 32, Nat.mod_lt _ (by decide)⟩
/-- The device at offset `d` before device `c`. -/
def bwd (c : Dev nD) (d : Fin 32) : Dev nD := ⟨(c.val + (32 - d.val)) % 32, Nat.mod_lt _ (by decide)⟩
/-- The offset that leads back. -/
def opp (d : Fin 32) : Fin 32 := ⟨(32 - d.val) % 32, Nat.mod_lt _ (by decide)⟩

theorem val_lt_dev (c : Dev nD) : c.val < 32 := c.isLt

theorem bwd_fwd (c : Dev nD) (d : Fin 32) : bwd (fwd c d) d = c := by
  have := val_lt_dev c; have := d.isLt
  apply Fin.ext; simp only [fwd, bwd]; omega
theorem fwd_bwd (c : Dev nD) (d : Fin 32) : fwd (bwd c d) d = c := by
  have := val_lt_dev c; have := d.isLt
  apply Fin.ext; simp only [fwd, bwd]; omega
theorem opp_opp (d : Fin 32) : opp (opp d) = d := by
  have := d.isLt
  apply Fin.ext; simp only [opp]; omega
theorem fwd_inj_dev {c : Dev nD} {d e : Fin 32} (h : fwd c d = fwd c e) : d = e := by
  have := val_lt_dev c; have := d.isLt; have := e.isLt
  have h' := congrArg Fin.val h
  apply Fin.ext; simp only [fwd] at h'; omega

/-- The offsets from `i` on. -/
def offs (i : ℕ) : Finset (Fin 32) := Finset.univ.filter fun d => i ≤ d.val
/-- The offsets from 1 up to, and without, `i`. -/
def offsBelow (i : ℕ) : Finset (Fin 32) := Finset.univ.filter fun d => 1 ≤ d.val ∧ d.val < i

theorem mem_offs {i : ℕ} {d : Fin 32} : d ∈ offs i ↔ i ≤ d.val := by simp [offs]
theorem mem_offsBelow {i : ℕ} {d : Fin 32} : d ∈ offsBelow i ↔ 1 ≤ d.val ∧ d.val < i := by simp [offsBelow]
theorem offs_zero : offs 0 = Finset.univ := by ext d; simp [offs]
theorem offs_end : offs 32 = ∅ := by ext d; simp [offs]
theorem offsBelow_one : offsBelow 1 = ∅ := by ext d; simp [offsBelow]; omega
theorem offsBelow_end : offsBelow 32 = offs 1 := by ext d; simp [offs, offsBelow]
theorem offs_step {i : ℕ} (h : i < 32) : offs i = insert ⟨i, h⟩ (offs (i + 1)) := by
  ext d; rw [mem_offs, Finset.mem_insert, mem_offs, Fin.ext_iff]; simp only []; omega
theorem notMem_offs_succ {i : ℕ} (h : i < 32) : (⟨i, h⟩ : Fin 32) ∉ offs (i + 1) := by rw [mem_offs]; simp
theorem offsBelow_step {i : ℕ} (h1 : 1 ≤ i) (h : i < 32) : offsBelow (i + 1) = insert ⟨i, h⟩ (offsBelow i) := by
  ext d; rw [mem_offsBelow, Finset.mem_insert, mem_offsBelow, Fin.ext_iff]; simp only []; omega
theorem notMem_offsBelow {i : ℕ} (h : i < 32) : (⟨i, h⟩ : Fin 32) ∉ offsBelow i := by rw [mem_offsBelow]; simp

/-- One resource per offset from `i` on: offset `i`'s and the rest. -/
theorem bigSep_offs {M : Type} [URA M] {i : ℕ} (h : i < 32) (Φ : Fin 32 → sProp M) :
    bigSep (offs i) Φ = iprop(Φ ⟨i, h⟩ ∗ bigSep (offs (i + 1)) Φ) := by
  rw [offs_step h, bigSep_insert (notMem_offs_succ h)]; rfl
/-- One resource per offset below `i + 1`: offset `i`'s and the rest. -/
theorem bigSep_offsBelow {M : Type} [URA M] {i : ℕ} (h1 : 1 ≤ i) (h : i < 32) (Φ : Fin 32 → sProp M) :
    bigSep (offsBelow (i + 1)) Φ = iprop(Φ ⟨i, h⟩ ∗ bigSep (offsBelow i) Φ) := by
  rw [offsBelow_step h1 h, bigSep_insert (notMem_offsBelow h)]; rfl
/-- The nonzero offsets, read backwards, are the nonzero offsets. -/
theorem bigSep_opp {M : Type} [URA M] (Φ : Fin 32 → sProp M) :
    bigSep (offs 1) Φ = bigSep (offs 1) fun d => Φ (opp d) := by
  have h : (offs 1).map ⟨opp, Function.LeftInverse.injective opp_opp⟩ = offs 1 := by
    ext d
    rw [Finset.mem_map]
    constructor
    · rintro ⟨e, he, rfl⟩
      have := e.isLt
      rw [mem_offs] at he ⊢
      simp only [Function.Embedding.coeFn_mk, opp]; omega
    · intro hd
      refine ⟨opp d, ?_, opp_opp d⟩
      have := d.isLt
      rw [mem_offs] at hd ⊢
      simp only [opp]; omega
  conv_lhs => rw [← h]
  rw [bigSep_map]; rfl

/-! ## The resource algebra: the pipeline library's copy and the exchange's (duties: offsets) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs and cells -/

abbrev aM : Memref sig .tc .vmem S32x8x256 .bf16 := Memref.whole cc0_scratch0
abbrev rM : Memref sig .tc .vmem S32x8x256 .bf16 := Memref.whole cc0_scratch1

/-- The runtime's barrier semaphore; the send and the receive semaphore at offset `d`. -/
abbrev barS : Sem sig := (SemArray.scalar (sig.barrier 0 rfl) : Sems sig S_).sem
def sendS (d : Fin 32) : DmaSem sig := ⟨6 + d.val, show 6 + d.val < 70 by omega⟩
def recvS (d : Fin 32) : DmaSem sig := ⟨38 + d.val, show 38 + d.val < 70 by omega⟩

/-- The offset a send semaphore, and a receive semaphore, is for. -/
def sendIx (q : DmaSem sig) : Fin 32 := ⟨(q.val - 6) % 32, Nat.mod_lt _ (by decide)⟩
def recvIx (q : DmaSem sig) : Fin 32 := ⟨(q.val - 38) % 32, Nat.mod_lt _ (by decide)⟩
theorem sendIx_sendS (d : Fin 32) : sendIx (sendS d) = d := by
  have := d.isLt; apply Fin.ext; simp only [sendIx, sendS]; omega
theorem recvIx_recvS (d : Fin 32) : recvIx (recvS d) = d := by
  have := d.isLt; apply Fin.ext; simp only [recvIx, recvS]; omega
theorem sendS_lt (d : Fin 32) : ¬ 38 ≤ (sendS d).val := by have := d.isLt; simp only [sendS]; omega
theorem recvS_ge (d : Fin 32) : 38 ≤ (recvS d).val := by simp only [recvS]; omega
theorem sendS_inj {d e : Fin 32} (h : sendS d = sendS e) : d = e := by rw [← sendIx_sendS d, h, sendIx_sendS]
theorem recvS_inj {d e : Fin 32} (h : recvS d = recvS e) : d = e := by rw [← recvIx_recvS d, h, recvIx_recvS]
theorem sendS_ne_recvS (d e : Fin 32) : sendS d ≠ recvS e := fun h => sendS_lt d (h ▸ recvS_ge e)

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The kernel's OWN (scoped) semaphores: the sends', the receives'. -/
abbrev osem : Fin 32 ⊕ Fin 32 → SemLoc sig := Sum.elim (fun d => .dma (sendS d)) (fun d => .dma (recvS d))
/-- All the semaphores of the exchange: the barrier, and those. -/
abbrev csem : Unit ⊕ (Fin 32 ⊕ Fin 32) → SemLoc sig := Sum.elim (fun _ => .reg barS) osem
abbrev kcell (ck : Dev nD × (Unit ⊕ (Fin 32 ⊕ Fin 32))) : GSem nD τ sig := ((ck.1 : Thread nD τ), csem ck.2)

/-- The amount one block's transfer credits. -/
abbrev N : ℕ := sig.dmaCredit .tc (Kind.tc.table .vmem) (cc0_scratch1 : Ref sig .tc).idx S8x256 .bf16
theorem N_pos : 0 < N := sig.dmaCredit_pos _ _ _ _ _ (by decide)

/-! ## Contents -/

/-- The block a device's window `w` is fetched with. -/
def iblk (c : Dev nD) (w : Fin cfg0.W) : ((cfg0.win w).xblock (cfg0.grid.coords t0_0)).Idx → Elt F (cfg0.win w).elt :=
  ((cfg0.win w).blk t0_0).view.read (Elt F) ((s₀ m ρ).mem ((cfg0.win w).arr.view.loc (c : Thread nD τ)))

/-- The kernel's arguments as device `c` stages them. -/
def xst (c : Dev nD) : Vec F S256x128 .bf16 := iblk m ρ c 0
def rwst (c : Dev nD) : Vec F S128x64 .bf16 := iblk m ρ c 1
def ixst (c : Dev nD) : Vec F S256x1 .i32 := iblk m ρ c 2
def ewst (c : Dev nD) : Vec F S2x128x256 .bf16 := iblk m ρ c 3
def swst (c : Dev nD) : Vec F S128x256 .bf16 := iblk m ρ c 4

/-- The device's position as the kernel computes it. -/
def word (c : Dev nD) : BitVec 32 := Scalar.remsi (Scalar.divsi (Dev.word c) 1#32) 32#32

/-- Device `c`'s two experts' share of the whole result, a block of eight rows per device. -/
def partAt (c : Dev nD) : Vec F S32x8x256 .bf16 :=
  k0_pay6 (word c) (k0_pay1 (xst m ρ c)) (k0_pay2 (xst m ρ c) (rwst m ρ c)) (iota .tc S256x64 32 [1] iota_S256x64_d1_w32) (k0_pay3 (ixst m ρ c)) (k0_pay4 (F := F))
    (Scalar.addi (Scalar.muli (word c) 2#32) 0#32) (k0_pay5 (word c) (xst m ρ c) (rwst m ρ c))
    ((Memref.whole cc0_stg3_0 : Memref sig .tc .vmem S2x128x256 .bf16).view.readAt (Elt F) (Rect.unit (s := S2x128x256) ![0, 0, 0] S1x128x256.size inb_S2x128x256_S1x128x256_0_0_0).toLoadRect (ewst m ρ c))
    ((Memref.whole cc0_stg3_0 : Memref sig .tc .vmem S2x128x256 .bf16).view.readAt (Elt F) (Rect.unit (s := S2x128x256) ![1, 0, 0] S1x128x256.size inb_S2x128x256_S1x128x256_1_0_0).toLoadRect (ewst m ρ c))

/-- The same place in block `p`. -/
def inBlock (p : Fin 32) (i : S32x8x256.Idx) : S32x8x256.Idx := Function.update i 0 p

/-- Device `c`'s receive buffer when all has arrived: slot `d` holds block `c` of device `c - d`'s share. -/
def recvAt (c : Dev nD) : Vec F S32x8x256 .bf16 := fun i => partAt m ρ (bwd c (i 0)) (inBlock c i)

/-- Device `c`'s result: eight rows. -/
def outAt (c : Dev nD) : Vec F S8x256 .f32 :=
  k0_pay8
    (k0_pay7
      ((Memref.whole cc0_stg0_0 : Memref sig .tc .vmem S256x128 .bf16).view.readAt (Elt F) (Rect.unit (s := S256x128) (k0_off2 c) S8x128.size (k0_off2_inb c)).toLoadRect (xst m ρ c))
      (swst m ρ c)
      ((aM : Memref sig .tc .vmem S32x8x256 .bf16).view.readAt (Elt F) (Rect.unit (s := S32x8x256) (k0_off3 c) S1x8x256.size (k0_off3_inb c)).toLoadRect (partAt m ρ c)))
    ((rM : Memref sig .tc .vmem S32x8x256 .bf16).view.readAt (Elt F) (Rect.unit (s := S32x8x256) ![1, 0, 0] S31x8x256.size inb_S32x8x256_S31x8x256_1_0_0).toLoadRect (recvAt m ρ c))

/-! ## Blocks of the two buffers -/

/-- The places of block `p`. -/
def slot (p : Fin 32) : Finset S32x8x256.Idx := Finset.univ.filter fun i => (i 0).val = p.val
theorem mem_slot {p : Fin 32} {i : S32x8x256.Idx} : i ∈ slot p ↔ (i 0).val = p.val := by simp [slot]

/-- Block `p` of device `c`'s partial result, and slot `p` of its receive buffer, held at contents `f`. -/
def aPts (c : Dev nD) (p : Fin 32) (f : Vec F S32x8x256 .bf16) : sProp 𝕄 :=
  ((c : Thread nD τ).loc cc0_scratch0) ↦[slot p]{fullShare} f
def rPts (c : Dev nD) (p : Fin 32) (f : Vec F S32x8x256 .bf16) : sProp 𝕄 :=
  ((c : Thread nD τ).loc cc0_scratch1) ↦[slot p]{fullShare} f

omit [FloatOps F] in
instance aPts_storable (c : Dev nD) (p) (f) : BI.Storable (upEmb : UEmb _ 𝕄) (aPts (F := F) c p f) := by unfold aPts; infer_instance
omit [FloatOps F] in
instance rPts_storable (c : Dev nD) (p) (f) : BI.Storable (upEmb : UEmb _ 𝕄) (rPts (F := F) c p f) := by unfold rPts; infer_instance

/-! ## The schedule -/

/-- What the signal of device `c + d`'s device at offset `d` before it hands over (duty `d` of the barrier of `c`, paid by
    `s = c - d`): slot `-d` of `s`'s receive buffer, and that `s` has reached round 0 of its receive cell `-d`. -/
def barPay (c : Dev nD) (d : Fin 32) : sProp 𝕄 :=
  iprop((∃ f, rPts (bwd c d) (opp d) f) ∗ reached ER (recvCell (bwd c d) (opp d)) 0)
def recvPay (c : Dev nD) (d : Fin 32) : sProp 𝕄 := rPts c d (recvAt m ρ c)
def sendPay (c : Dev nD) (d : Fin 32) : sProp 𝕄 := aPts c (fwd c d) (partAt m ρ c)

/-- One round, round 0. -/
def exRd : Rounds.Schedule (GSem nD τ sig) (Fin 32) 𝕄 where
  duties g r := if r = 0 then (match g.2 with
    | .reg _ => offs 1
    | .dma q => if q = sendS 0 ∨ q = recvS 0 then ∅ else {0}) else ∅
  unitless _ := False
  amount g _ _ := match g.2 with | .reg _ => 1 | .dma _ => N
  payload g _ d := match g.2 with
    | .reg _ => barPay g.1.1 d
    | .dma q => if 38 ≤ q.val then recvPay m ρ g.1.1 (recvIx q) else sendPay m ρ g.1.1 (sendIx q)
  amount_pos g _ _ _ := by
    rcases g with ⟨_, _ | _⟩
    · exact Nat.one_pos
    · exact N_pos

instance exRd_payload_storable (g : GSem nD τ sig) (r : ℕ) (d : Fin 32) :
    BI.Storable (upEmb : UEmb _ 𝕄) ((exRd (F := F) m ρ).payload g r d) := by
  rcases g with ⟨t, q | q⟩
  · show BI.Storable upEmb (barPay t.1 d)
    unfold barPay; infer_instance
  · show BI.Storable upEmb (if 38 ≤ q.val then recvPay m ρ t.1 (recvIx q) else sendPay m ρ t.1 (sendIx q))
    unfold recvPay sendPay
    split <;> infer_instance

section Sched
variable (c : Dev nD) {d : Fin 32}

theorem duties_bar : (exRd (F := F) m ρ).duties (barCell c) 0 = offs 1 := rfl
theorem duties_send (hd : 1 ≤ d.val) : (exRd (F := F) m ρ).duties (sendCell c d) 0 = {0} :=
  if_neg fun h => by
    rcases h with h | h
    · rw [sendS_inj h] at hd; exact absurd hd (by decide)
    · exact sendS_ne_recvS _ _ h
theorem duties_recv (hd : 1 ≤ d.val) : (exRd (F := F) m ρ).duties (recvCell c d) 0 = {0} :=
  if_neg fun h => by
    rcases h with h | h
    · exact sendS_ne_recvS _ _ h.symm
    · rw [recvS_inj h] at hd; exact absurd hd (by decide)
theorem duties_send_zero : (exRd (F := F) m ρ).duties (sendCell c 0) 0 = ∅ := by
  dsimp only [exRd]; rw [if_pos rfl, if_pos (Or.inl rfl)]
theorem duties_recv_zero : (exRd (F := F) m ρ).duties (recvCell c 0) 0 = ∅ := by
  dsimp only [exRd]; rw [if_pos rfl, if_pos (Or.inr rfl)]
theorem duties_later (g : GSem nD τ sig) : ∀ r, 1 ≤ r → (exRd (F := F) m ρ).duties g r = ∅ :=
  fun r hr => if_neg (by omega)

theorem amount_bar (e : Fin 32) : (exRd (F := F) m ρ).amount (barCell c) 0 e = 1 := rfl
theorem amount_send (e : Fin 32) : (exRd (F := F) m ρ).amount (sendCell c d) 0 e = N := rfl
theorem amount_recv (e : Fin 32) : (exRd (F := F) m ρ).amount (recvCell c d) 0 e = N := rfl

theorem expect_bar : (exRd (F := F) m ρ).expect (barCell c) 0 = 31 := by
  unfold Schedule.expect Schedule.amountOf
  rw [duties_bar, Finset.sum_congr rfl fun d _ => amount_bar m ρ c d, Finset.sum_const, smul_eq_mul]
  decide
theorem expect_send (hd : 1 ≤ d.val) : (exRd (F := F) m ρ).expect (sendCell c d) 0 = N := by
  unfold Schedule.expect Schedule.amountOf; rw [duties_send m ρ c hd, Finset.sum_singleton, amount_send]
theorem expect_recv (hd : 1 ≤ d.val) : (exRd (F := F) m ρ).expect (recvCell c d) 0 = N := by
  unfold Schedule.expect Schedule.amountOf; rw [duties_recv m ρ c hd, Finset.sum_singleton, amount_recv]

theorem payload_bar (e : Fin 32) : (exRd (F := F) m ρ).payload (barCell c) 0 e = barPay c e := rfl
theorem payload_send (e : Fin 32) : (exRd (F := F) m ρ).payload (sendCell c d) 0 e = sendPay m ρ c d :=
  (if_neg (sendS_lt d)).trans (by rw [sendIx_sendS])
theorem payload_recv (e : Fin 32) : (exRd (F := F) m ρ).payload (recvCell c d) 0 e = recvPay m ρ c d :=
  (if_pos (recvS_ge d)).trans (by rw [recvIx_recvS])

/-- What a wait for the whole round gives: a barrier cell's 31 slots; a receive cell's slot; a send cell's block. -/
theorem rest_bar : bigSep ((exRd (F := F) m ρ).duties (barCell c) 0 \ ∅) (fun e => (exRd (F := F) m ρ).payload (barCell c) 0 e)
    = bigSep (offs 1) fun d => iprop((∃ f, rPts (fwd c d) d f) ∗ reached ER (recvCell (fwd c d) d) 0) := by
  rw [Finset.sdiff_empty, duties_bar, bigSep_congr (fun e _ => payload_bar m ρ c e), bigSep_opp]
  refine bigSep_congr fun d _ => ?_
  have hb : bwd c (opp d) = fwd c d := by
    have := val_lt_dev c; have := d.isLt
    apply Fin.ext; simp only [fwd, bwd, opp]; omega
  unfold barPay; rw [opp_opp, hb]
theorem rest_send (hd : 1 ≤ d.val) : bigSep ((exRd (F := F) m ρ).duties (sendCell c d) 0 \ ∅) (fun e => (exRd (F := F) m ρ).payload (sendCell c d) 0 e) = sendPay m ρ c d := by
  rw [Finset.sdiff_empty, duties_send m ρ c hd, bigSep_singleton, payload_send]
theorem rest_recv (hd : 1 ≤ d.val) : bigSep ((exRd (F := F) m ρ).duties (recvCell c d) 0 \ ∅) (fun e => (exRd (F := F) m ρ).payload (recvCell c d) 0 e) = recvPay m ρ c d := by
  rw [Finset.sdiff_empty, duties_recv m ρ c hd, bigSep_singleton, payload_recv]

end Sched

/-! ## What each core owes; the levels -/

/-- The receive credits device `c` owes at the offsets from `i` on. -/
def OR (c : Dev nD) (i : ℕ) : CellTallies nD τ sig Unit := ∑ d ∈ offs i, tallyAt (recvCell (fwd c d) d) () N
/-- The barrier signals device `c` owes at the offsets from `i` on. -/
def OB (c : Dev nD) (i : ℕ) : CellTallies nD τ sig Unit := ∑ d ∈ offs i, tallyAt (barCell (fwd c d)) () 1
/-- What it owes at launch. -/
def O₀ (c : Dev nD) : CellTallies nD τ sig Unit := OR c 1 + OB c 1

theorem OR_step (c : Dev nD) {i : ℕ} (h : i < 32) : OR c i = OR c (i + 1) + tallyAt (recvCell (fwd c ⟨i, h⟩) ⟨i, h⟩) () N := by
  unfold OR; rw [offs_step h, Finset.sum_insert (notMem_offs_succ h), add_comm]
theorem OB_step (c : Dev nD) {i : ℕ} (h : i < 32) : OB c i = OB c (i + 1) + tallyAt (barCell (fwd c ⟨i, h⟩)) () 1 := by
  unfold OB; rw [offs_step h, Finset.sum_insert (notMem_offs_succ h), add_comm]
theorem OR_end (c : Dev nD) : OR c 32 = 0 := by unfold OR; rw [offs_end, Finset.sum_empty]
theorem OB_end (c : Dev nD) : OB c 32 = 0 := by unfold OB; rw [offs_end, Finset.sum_empty]

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 38 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (d : Fin 32) (u : Unit) : lv (recvCell c d) u = 2 := if_pos (recvS_ge d)

theorem OR_pos {c : Dev nD} {i : ℕ} {g : GSem nD τ sig} {u : Unit} (h : 0 < OR c i g u) : ∃ d, g = recvCell (fwd c d) d := by
  unfold OR at h
  rw [Finset.sum_apply, Finsupp.finset_sum_apply] at h
  obtain ⟨d, -, hd⟩ := Finset.exists_ne_zero_of_sum_ne_zero (Nat.pos_iff_ne_zero.mp h)
  rw [tallyAt_apply] at hd
  by_contra hn
  exact hd (if_neg fun h' => hn ⟨d, h'.1⟩)
theorem OB_pos {c : Dev nD} {i : ℕ} {g : GSem nD τ sig} {u : Unit} (h : 0 < OB c i g u) : ∃ d, g = barCell (fwd c d) := by
  unfold OB at h
  rw [Finset.sum_apply, Finsupp.finset_sum_apply] at h
  obtain ⟨d, -, hd⟩ := Finset.exists_ne_zero_of_sum_ne_zero (Nat.pos_iff_ne_zero.mp h)
  rw [tallyAt_apply] at hd
  by_contra hn
  exact hd (if_neg fun h' => hn ⟨d, h'.1⟩)
theorem O₀_pos {c : Dev nD} {g : GSem nD τ sig} {u : Unit} (h : 0 < O₀ c g u) :
    (∃ d, g = recvCell (fwd c d) d) ∨ ∃ d, g = barCell (fwd c d) := by
  unfold O₀ at h
  rw [Pi.add_apply, Finsupp.add_apply] at h
  rcases Nat.eq_zero_or_pos (OR c 1 g u) with h0 | h0
  · rw [h0, Nat.zero_add] at h; exact .inr (OB_pos h)
  · exact .inl (OR_pos h0)

/-- A core may wait on a staging semaphore whatever it owes of the exchange: those are all above. -/
theorem mayWait_stage (c : Dev nD) (q : DmaSem sig) (hq : ¬ 38 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; exact le_of_eq (if_neg hq))
      (fun g u hg => by
        rcases O₀_pos hg with ⟨d, rfl⟩ | ⟨d, rfl⟩
        · rw [lv_recv]; decide
        · exact Nat.one_pos)
  · rw [MayWait_zero]; iintro -; iempintro

/-- At its barrier wait a device owes receive credits only: their cells are above its barrier cell. -/
theorem mayWait_bar (c : Dev nD) (i : ℕ) :
    (levAts L lv : sProp 𝕄) ⊢ MayWait (c : Thread nD τ) (.reg barS) () (OR c i) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_refl 1)
    (fun g u hg => by obtain ⟨d, rfl⟩ := OR_pos hg; rw [lv_recv]; decide)

end Cert.KernelIdealRun

end
-- ==== Proof.StepsKernelIdeal.lean ====
/-
The exchange's four kinds of step — a signal to a peer, a transfer to a peer, the wait for a peer's transfer, the wait
for one's own — each proved ONCE, at a symbolic offset `i` and for any continuation; the kernel's body takes each of them
31 times. A step's state lists, offset by offset, what is still to be used (offsets from `i` on) and what has been got
(offsets below `i`).
-/
module

public import proofs.«01_k».proof.Proof.ProtoKernelIdeal

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The blocks as the kernel names them -/

/-- Block at offset `off` of one of the two buffers, as a matrix of eight rows. -/
abbrev blk (b : Memref sig .tc .vmem S32x8x256 .bf16) (off : Fin 3 → ℕ) (inb : ∀ a, off a + S1x8x256.size a ≤ S32x8x256.size a) :
    Memref sig .tc .vmem S8x256 .bf16 :=
  (b.slice (Rect.unit (s := S32x8x256) off S1x8x256.size inb) (fun _ => rfl)).squeeze S8x256 squeezes_S1x8x256_S8x256

theorem set_rect (p : Fin 32) (off : Fin 3 → ℕ) (inb : ∀ a, off a + S1x8x256.size a ≤ S32x8x256.size a) (hoff : off = ![p.val, 0, 0]) :
    (Rect.unit (s := S32x8x256) off S1x8x256.size inb).set = slot p := by
  subst hoff
  ext i
  rw [Rect.mem_set_unit, mem_slot]
  constructor
  · intro h
    have h0 := h 0
    have e1 : (![p.val, 0, 0] : Fin 3 → ℕ) 0 = p.val := rfl
    have e2 : S1x8x256.size 0 = 1 := rfl
    rw [e1, e2] at h0
    omega
  · intro h a
    have h1 : (i 1).val < 8 := (i 1).isLt
    have h2 : (i 2).val < 256 := (i 2).isLt
    fin_cases a
    · show p.val ≤ (i 0).val ∧ (i 0).val < p.val + 1
      omega
    · show 0 ≤ (i 1).val ∧ (i 1).val < 0 + 8
      omega
    · show 0 ≤ (i 2).val ∧ (i 2).val < 0 + 256
      omega

theorem set_blk_a (p : Fin 32) (off : Fin 3 → ℕ) (inb) (hoff : off = ![p.val, 0, 0]) : (blk aM off inb).view.set = slot p :=
  (View.set_reshape _ squeezes_S1x8x256_S8x256.numel_eq).trans ((View.set_slice_whole _ _).trans (set_rect p off inb hoff))
theorem set_blk_r (p : Fin 32) (off : Fin 3 → ℕ) (inb) (hoff : off = ![p.val, 0, 0]) : (blk rM off inb).view.set = slot p :=
  (View.set_reshape _ squeezes_S1x8x256_S8x256.numel_eq).trans ((View.set_slice_whole _ _).trans (set_rect p off inb hoff))

/-- A block copied into slot `d` leaves there, at each place, what the source block holds at that place. -/
theorem landed (p d : Fin 32) (offA offR : Fin 3 → ℕ) (inbA inbR) (hA : offA = ![p.val, 0, 0]) (hR : offR = ![d.val, 0, 0])
    (fs fd : Vec F S32x8x256 .bf16) (i : S32x8x256.Idx) (hi : i ∈ slot d) :
    (blk rM offR inbR).view.write (Elt F) fd ((blk aM offA inbA).view.read (Elt F) fs) Finset.univ i = fs (inBlock p i) := by
  rw [← set_blk_r d offR inbR hR, View.set, Finset.mem_map] at hi
  obtain ⟨x, -, rfl⟩ := hi
  refine (View.write_emb_of_mem (v := (blk rM offR inbR).view) (Val := Elt F) fd ((blk aM offA inbA).view.read (Elt F) fs) (Finset.mem_univ x)).trans ?_
  show fs ((blk aM offA inbA).view.emb x) = fs (inBlock p ((blk rM offR inbR).view.emb x))
  congr 1
  subst hA; subst hR
  funext a
  have h0 : ((Shape.reshapeEquiv squeezes_S1x8x256_S8x256.numel_eq x) 0).val < 1 := ((Shape.reshapeEquiv squeezes_S1x8x256_S8x256.numel_eq x) 0).isLt
  apply Fin.ext
  fin_cases a
  · show p.val + 1 * ((Shape.reshapeEquiv squeezes_S1x8x256_S8x256.numel_eq x) 0).val = p.val
    omega
  · rfl
  · rfl

/-! ## What every device knows: the cells' invariants and that each is at round 0 -/

abbrev KIx := Dev nD × (Unit ⊕ (Fin 32 ⊕ Fin 32))
abbrev bIx (c : Dev nD) : KIx := (c, .inl ())
abbrev sIx (c : Dev nD) (d : Fin 32) : KIx := (c, .inr (.inl d))
abbrev rIx (c : Dev nD) (d : Fin 32) : KIx := (c, .inr (.inr d))

def records (K : KIx → ℕ) : sProp 𝕄 :=
  iprop((bigSep Finset.univ fun ck : KIx => cellInv ER (exRd m ρ) (K ck) (kcell ck))
    ∗ bigSep Finset.univ fun ck : KIx => reached ER (kcell ck) 0)

instance records_persistent (K) : BI.Persistent (records m ρ K) := by unfold records; infer_instance

variable (K : KIx → ℕ)

theorem inv_at (ck : KIx) : records m ρ K ⊢ cellInv ER (exRd m ρ) (K ck) (kcell ck) :=
  sep_elim_left.trans (show _ ⊢ _ from bigSep_elim (Φ := fun ck : KIx => (cellInv ER (exRd m ρ) (K ck) (kcell ck) : sProp 𝕄)) (Finset.mem_univ ck))
theorem reached_at (ck : KIx) : records m ρ K ⊢ reached ER (kcell ck) 0 :=
  sep_elim_right.trans (show _ ⊢ _ from bigSep_elim (Φ := fun ck : KIx => (reached ER (kcell ck) 0 : sProp 𝕄)) (Finset.mem_univ ck))

/-- A device owes `O`, having waited for some things. -/
def owesE (c : Dev nD) (O : CellTallies nD τ sig Unit) : sProp 𝕄 := iprop(∃ W, owes (c : Thread nD τ) O W)

/-! ## A signal -/

/-- What the signal at offset `d` uses: the duty of the peer's barrier, and the slot the peer will write. -/
def sigIn (c : Dev nD) (d : Fin 32) : sProp 𝕄 :=
  iprop(dutyTok ER (barCell (fwd c d)) 0 d ∗ ∃ f, rPts c (opp d) f)
/-- The signals from offset `i` on are to come. -/
def sigSt (c : Dev nD) (i : ℕ) : sProp 𝕄 := iprop(owesE c (OR c 1 + OB c i) ∗ bigSep (offs i) (sigIn c))

/-- The signal at offset `i`. -/
theorem step_signal (c : Dev nD) {i : ℕ} (h1 : 1 ≤ i) (h : i < 32) {n : Dev nD} (hn : n.val = (c.val + i) % 32) {k' : ℕ} (hk : k' = 1)
    {α : Type} {k : PUnit → Prog (TpuEff nD τ sig (Elt F) Λ₀ .tc) α} {Q : α → sProp 𝕄} {R : sProp 𝕄}
    (hrest : iprop(records m ρ K ∗ sigSt c (i + 1) ∗ R) ⊢ wp frame (wpE (defs₀ (F := F)) 𝒱₀ (c : Thread nD τ) none) Set.univ (k ⟨⟩) Q) :
    iprop(records m ρ K ∗ sigSt c i ∗ R)
      ⊢ wp frame (wpE (defs₀ (F := F)) 𝒱₀ (c : Thread nD τ) none) Set.univ (.op (.semSignal (n : Thread nD τ) barS k') k) Q := by
  obtain rfl : n = fwd c ⟨i, h⟩ := Fin.ext hn
  subst hk
  unfold sigSt owesE
  rw [bigSep_offs h]
  unfold sigIn
  iintro ⟨#HK, ⟨⟨%W, HO⟩, ⟨Ht, Hslot⟩, Hs⟩, HR⟩
  iapply (Rounds.wp_signal 𝒱₀ ER (exRd m ρ) (c : Thread nD τ) none (dst := (fwd c ⟨i, h⟩ : Thread nD τ)) (κ := K (bIx (fwd c ⟨i, h⟩))) (r := 0) (d := ⟨i, h⟩)
      (by rw [duties_bar]; exact mem_offs.mpr h1) (amount_bar m ρ (fwd c ⟨i, h⟩) ⟨i, h⟩) () (O₀ := OR c 1 + OB c i) (OR c 1 + OB c (i + 1)) (by rw [OB_step c h, add_assoc]) (W := W))
    $$ [HO Ht Hslot]
  · isplitr; · iapply (inv_at m ρ K (bIx (fwd c ⟨i, h⟩))); iexact HK
    isplitl [HO]; · iexact HO
    isplitl [Ht]; · iexact Ht
    isplitl [Hslot]
    · rw [payload_bar]; unfold barPay
      rw [bwd_fwd]
      isplitl [Hslot]; · iexact Hslot
      iapply (reached_at m ρ K (rIx c (opp ⟨i, h⟩))); iexact HK
    · iapply (reached_at m ρ K (bIx (fwd c ⟨i, h⟩))); iexact HK
  iintro HO
  iapply hrest
  unfold sigSt owesE
  isplitr; · iexact HK
  isplitl [HO Hs]
  · isplitl [HO]
    · iexists W; iexact HO
    · unfold sigIn; iexact Hs
  iexact HR

/-! ## The wait for the 31 signals -/

/-- The wait at the barrier: the peers' slots come with it, and that each peer is at round 0 of the receive cell there. -/
theorem step_bar (c : Dev nD) {k' : ℕ} (hk : k' = 31)
    {α : Type} {k : PUnit → Prog (TpuEff nD τ sig (Elt F) Λ₀ .tc) α} {Q : α → sProp 𝕄} {R : sProp 𝕄}
    (hrest : iprop(records m ρ K ∗ (owesE c (OR c 1) ∗ semVal (barCell c) 0 ∗ bigSep (offs 1) fun d => iprop(∃ f, rPts (fwd c d) d f)) ∗ R)
      ⊢ wp frame (wpE (defs₀ (F := F)) 𝒱₀ (c : Thread nD τ) none) Set.univ (k ⟨⟩) Q) :
    iprop(records m ρ K ∗ (owesE c (OR c 1) ∗ cred (tallyAt (barCell c) () 31) ∗ levAts L lv ∗ atPos ER (barCell c) 0 ∅ 0) ∗ R)
      ⊢ wp frame (wpE (defs₀ (F := F)) 𝒱₀ (c : Thread nD τ) none) Set.univ (.op (.semWait barS k') k) Q := by
  subst hk
  unfold owesE
  iintro ⟨#HK, ⟨⟨%W, HO⟩, Hc, Hlev, Hat⟩, HR⟩
  iapply (Rounds.wp_wait_rest_token 𝒱₀ ER (exRd m ρ) (c : Thread nD τ) none (κ := K (bIx c))
      (wpE_semWait_eq 𝒱₀ (c : Thread nD τ) none Set.univ) (Set.mem_univ _) () (O := OR c 1) (W := W) (R := 0) (m := 0) (T := ∅)
      (by rw [expect_bar])) $$ [HO Hc Hlev Hat]
  · isplitr; · iapply (inv_at m ρ K (bIx c)); iexact HK
    isplitl [Hc]; · iexact Hc
    isplitl [HO]; · iexact HO
    isplitl [Hlev]; · iapply (mayWait_bar c 1); iexact Hlev
    iexact Hat
  iintro ⟨HO, Hat, -, Hpay⟩
  imod (Rounds.cell_close ER (exRd m ρ) (Set.mem_univ (K (bIx c))) (fun h => h) (R := 0 + 1) (duties_later m ρ (barCell c))) $$ [Hat] with Hz
  · isplitr; · iapply (inv_at m ρ K (bIx c)); iexact HK
    iexact Hat
  ihave Hp := (Entails.of_eq (rest_bar m ρ c)) $$ Hpay
  ihave Hp := (show _ ⊢ bigSep (offs 1) fun d => iprop(∃ f, rPts (F := F) (fwd c d) d f) from bigSep_mono fun d _ =>
    show iprop((∃ f, rPts (F := F) (fwd c d) d f) ∗ reached ER (recvCell (fwd c d) d) 0) ⊢ iprop(∃ f, rPts (F := F) (fwd c d) d f) from sep_elim_left) $$ Hp
  iapply hrest
  isplitr; · iexact HK
  isplitl [HO Hz Hp]
  · isplitl [HO]; · unfold owesE; iexists (insert (SemLoc.reg barS, ()) W); iexact HO
    isplitl [Hz]; · iexact Hz
    iexact Hp
  iexact HR

/-! ## A transfer -/

/-- What the transfer at offset `d` uses: the block for the peer, the peer's slot, the two cells' duties. -/
def sendIn (c : Dev nD) (d : Fin 32) : sProp 𝕄 :=
  iprop(aPts c (fwd c d) (partAt m ρ c) ∗ (∃ f, rPts (fwd c d) d f) ∗ dutyTok ER (sendCell c d) 0 0 ∗ dutyTok ER (recvCell (fwd c d) d) 0 0)
/-- The transfers from offset `i` on are to come; those below have given the credit their own cell's wait spends. -/
def sendSt (c : Dev nD) (i : ℕ) : sProp 𝕄 :=
  iprop(owesE c (OR c i) ∗ bigSep (offs i) (sendIn m ρ c) ∗ bigSep (offsBelow i) fun d => cred (tallyAt (sendCell c d) () N))

/-- The offset the kernel computes for the block of the peer at offset `i`. -/
theorem off_send (c : Dev nD) (i : ℕ) (h1 : 1 ≤ i) (h : i < 32) : k0_off1 c (BitVec.ofNat 32 i) = ![(fwd c ⟨i, h⟩).val, 0, 0] := by
  have e := k0_off1_eq c ⟨i - 1, by omega⟩
  have h2 : 1 + (i - 1) = i := by omega
  simp only [h2] at e
  rw [e]
  have h3 : c.val + (i - 1) + 1 = c.val + i := by omega
  rw [h3]; rfl

/-- The transfer at offset `i`. -/
theorem step_send (c : Dev nD) {i : ℕ} (h1 : 1 ≤ i) (h : i < 32) {n : Dev nD} (hn : n.val = (c.val + i) % 32)
    {offA offR : Fin 3 → ℕ} {inbA inbR} (hA : offA = ![(fwd c ⟨i, h⟩).val, 0, 0]) (hR : offR = ![i, 0, 0])
    {sS sR : DmaSem sig} (hS : sS = sendS ⟨i, h⟩) (hV : sR = recvS ⟨i, h⟩)
    {hsc : (blk rM offR inbR).view.ref.isScScratch = false} {hsrc : (blk aM offA inbA).view.WordExact} {hdst : (blk rM offR inbR).view.WordExact}
    {hsem : DmaTarget.Typed .vmem (.dma sR) (.remote (n : Thread nD τ) (blk rM offR inbR) (.dma sS) hsc)}
    {α : Type} {k : PUnit → Prog (TpuEff nD τ sig (Elt F) Λ₀ .tc) α} {Q : α → sProp 𝕄} {R : sProp 𝕄}
    (hrest : iprop(records m ρ K ∗ sendSt m ρ c (i + 1) ∗ R) ⊢ wp frame (wpE (defs₀ (F := F)) 𝒱₀ (c : Thread nD τ) none) Set.univ (k ⟨⟩) Q) :
    iprop(records m ρ K ∗ sendSt m ρ c i ∗ R)
      ⊢ wp frame (wpE (defs₀ (F := F)) 𝒱₀ (c : Thread nD τ) none) Set.univ
          (.op (.enqueueDma (blk aM offA inbA) (.remote (n : Thread nD τ) (blk rM offR inbR) (.dma sS) hsc) (.dma sR) hsrc hdst hsem) k) Q := by
  obtain rfl : n = fwd c ⟨i, h⟩ := Fin.ext hn
  subst hS; subst hV
  unfold sendSt owesE
  rw [bigSep_offs h]
  unfold sendIn
  iintro ⟨#HK, ⟨⟨%W, HO⟩, ⟨⟨Ha, ⟨%fd, Hr⟩, Ht1, Ht2⟩, Hs⟩, Hc⟩, HR⟩
  iapply (Rounds.wp_send_pointsTo 𝒱₀ ER (exRd m ρ) (c : Thread nD τ) none (c' := (fwd c ⟨i, h⟩ : Thread nD τ)) (κ₁ := K (sIx c ⟨i, h⟩)) (κ₂ := K (rIx (fwd c ⟨i, h⟩) ⟨i, h⟩))
      (q := fullShare) (fs := partAt m ρ c) (fd := fd) (r₁ := 0) (r₂ := 0) (d₁ := 0) (d₂ := 0)
      (by rw [duties_send m ρ c h1]; exact Finset.mem_singleton_self _) (by rw [duties_recv m ρ _ h1]; exact Finset.mem_singleton_self _)
      () () N rfl (amount_send m ρ c 0) (amount_recv m ρ _ 0) (O₀ := OR c i) (OR c (i + 1)) (OR_step c h) (W := W)
      (by
        rw [payload_send, set_blk_a _ _ _ hA]; exact BI.Entails.refl _)
      (by
        rw [payload_recv, set_blk_r ⟨i, h⟩ _ _ hR]
        unfold recvPay rPts
        refine Entails.of_eq (pointsTo_congr fun x hx => ?_)
        refine (landed (fwd c ⟨i, h⟩) ⟨i, h⟩ offA offR inbA inbR hA hR _ _ x hx).trans ?_
        have hx0 : x 0 = (⟨i, h⟩ : Fin 32) := Fin.ext (mem_slot.mp hx)
        unfold recvAt
        rw [hx0, bwd_fwd]))
    $$ [HO Ha Hr Ht1 Ht2]
  · isplitr; · iapply (inv_at m ρ K (sIx c ⟨i, h⟩)); iexact HK
    isplitr; · iapply (inv_at m ρ K (rIx (fwd c ⟨i, h⟩) ⟨i, h⟩)); iexact HK
    isplitl [Ha]; · rw [set_blk_a _ _ _ hA]; unfold aPts; iexact Ha
    isplitl [Hr]; · rw [set_blk_r ⟨i, h⟩ _ _ hR]; unfold rPts; iexact Hr
    isplitl [HO]; · iexact HO
    isplitl [Ht1]; · iexact Ht1
    isplitr; · iapply (reached_at m ρ K (sIx c ⟨i, h⟩)); iexact HK
    isplitl [Ht2]; · iexact Ht2
    iapply (reached_at m ρ K (rIx (fwd c ⟨i, h⟩) ⟨i, h⟩)); iexact HK
  iintro ⟨Hcr, HO⟩
  iapply hrest
  unfold sendSt owesE
  rw [bigSep_offsBelow h1 h]
  isplitr; · iexact HK
  isplitl [HO Hs Hc Hcr]
  · isplitl [HO]
    · iexists W; iexact HO
    isplitl [Hs]; · unfold sendIn; iexact Hs
    isplitl [Hcr]; · iexact Hcr
    iexact Hc
  iexact HR

/-! ## The waits -/

/-- The waits for the peers' transfers: before its own, a wait has credit and position at its cell; after it, the cell's
    counter at zero and the slot filled. -/
def recvSt (c : Dev nD) (i : ℕ) : sProp 𝕄 :=
  iprop(owesE c 0 ∗ (bigSep (offs i) fun d => iprop(cred (tallyAt (recvCell c d) () N) ∗ atPos ER (recvCell c d) 0 ∅ 0))
    ∗ bigSep (offsBelow i) fun d => iprop(semVal (recvCell c d) 0 ∗ rPts c d (recvAt m ρ c)))

theorem step_recv (c : Dev nD) {i : ℕ} (h1 : 1 ≤ i) (h : i < 32) {sem : DmaSem sig} (hs : sem = recvS ⟨i, h⟩)
    {src dst : Memref sig .tc .vmem S8x256 .bf16} {hsrc : src.view.WordExact} {hdst : dst.view.WordExact} (hN : dst.view.dmaCredit = N)
    {α : Type} {k : PUnit → Prog (TpuEff nD τ sig (Elt F) Λ₀ .tc) α} {Q : α → sProp 𝕄} {R : sProp 𝕄}
    (hrest : iprop(records m ρ K ∗ recvSt m ρ c (i + 1) ∗ R) ⊢ wp frame (wpE (defs₀ (F := F)) 𝒱₀ (c : Thread nD τ) none) Set.univ (k ⟨⟩) Q) :
    iprop(records m ρ K ∗ recvSt m ρ c i ∗ R)
      ⊢ wp frame (wpE (defs₀ (F := F)) 𝒱₀ (c : Thread nD τ) none) Set.univ (.op (.waitDma2 sem src dst hsrc hdst) k) Q := by
  subst hs
  unfold recvSt owesE
  rw [bigSep_offs h]
  iintro ⟨#HK, ⟨⟨%W, HO⟩, ⟨⟨Hc, Hat⟩, Hs⟩, Hd⟩, HR⟩
  iapply (Rounds.wp_wait_rest_token 𝒱₀ ER (exRd m ρ) (c : Thread nD τ) none (κ := K (rIx c ⟨i, h⟩))
      (wpE_waitDma2_eq 𝒱₀ (c : Thread nD τ) none Set.univ) (Set.mem_univ _) () (O := 0) (W := W) (R := 0) (m := 0) (T := ∅)
      (by rw [Nat.zero_add, expect_recv m ρ c h1, hN])) $$ [Hc HO Hat]
  · isplitr; · iapply (inv_at m ρ K (rIx c ⟨i, h⟩)); iexact HK
    isplitl [Hc]; · rw [hN]; iexact Hc
    isplitl [HO]; · iexact HO
    isplitr; · rw [MayWait_zero]; iempintro
    iexact Hat
  iintro ⟨HO, Hat, -, Hpay⟩
  imod (Rounds.cell_close ER (exRd m ρ) (Set.mem_univ (K (rIx c ⟨i, h⟩))) (fun h => h) (R := 0 + 1) (duties_later m ρ (recvCell c ⟨i, h⟩))) $$ [Hat] with Hz
  · isplitr; · iapply (inv_at m ρ K (rIx c ⟨i, h⟩)); iexact HK
    iexact Hat
  ihave Hp := (Entails.of_eq (rest_recv m ρ c h1)) $$ Hpay
  iapply hrest
  unfold recvSt owesE
  rw [bigSep_offsBelow h1 h]
  isplitr; · iexact HK
  isplitl [HO Hs Hd Hz Hp]
  · isplitl [HO]
    · iexists (insert (SemLoc.dma (recvS ⟨i, h⟩), ()) W); iexact HO
    isplitl [Hs]; · iexact Hs
    isplitl [Hz Hp]
    · isplitl [Hz]; · iexact Hz
      unfold recvPay; iexact Hp
    iexact Hd
  iexact HR

/-- The waits for one's own transfers: after its own, the cell's counter at zero and the block back. -/
def backSt (c : Dev nD) (i : ℕ) : sProp 𝕄 :=
  iprop(owesE c 0 ∗ (bigSep (offs i) fun d => iprop(cred (tallyAt (sendCell c d) () N) ∗ atPos ER (sendCell c d) 0 ∅ 0))
    ∗ bigSep (offsBelow i) fun d => iprop(semVal (sendCell c d) 0 ∗ aPts c (fwd c d) (partAt m ρ c)))

theorem step_back (c : Dev nD) {i : ℕ} (h1 : 1 ≤ i) (h : i < 32) {sem : DmaSem sig} (hs : sem = sendS ⟨i, h⟩)
    {src dst : Memref sig .tc .vmem S8x256 .bf16} {hsrc : src.view.WordExact} {hdst : dst.view.WordExact} (hN : dst.view.dmaCredit = N)
    {α : Type} {k : PUnit → Prog (TpuEff nD τ sig (Elt F) Λ₀ .tc) α} {Q : α → sProp 𝕄} {R : sProp 𝕄}
    (hrest : iprop(records m ρ K ∗ backSt m ρ c (i + 1) ∗ R) ⊢ wp frame (wpE (defs₀ (F := F)) 𝒱₀ (c : Thread nD τ) none) Set.univ (k ⟨⟩) Q) :
    iprop(records m ρ K ∗ backSt m ρ c i ∗ R)
      ⊢ wp frame (wpE (defs₀ (F := F)) 𝒱₀ (c : Thread nD τ) none) Set.univ (.op (.waitDma2 sem src dst hsrc hdst) k) Q := by
  subst hs
  unfold backSt owesE
  rw [bigSep_offs h]
  iintro ⟨#HK, ⟨⟨%W, HO⟩, ⟨⟨Hc, Hat⟩, Hs⟩, Hd⟩, HR⟩
  iapply (Rounds.wp_wait_rest_token 𝒱₀ ER (exRd m ρ) (c : Thread nD τ) none (κ := K (sIx c ⟨i, h⟩))
      (wpE_waitDma2_eq 𝒱₀ (c : Thread nD τ) none Set.univ) (Set.mem_univ _) () (O := 0) (W := W) (R := 0) (m := 0) (T := ∅)
      (by rw [Nat.zero_add, expect_send m ρ c h1, hN])) $$ [Hc HO Hat]
  · isplitr; · iapply (inv_at m ρ K (sIx c ⟨i, h⟩)); iexact HK
    isplitl [Hc]; · rw [hN]; iexact Hc
    isplitl [HO]; · iexact HO
    isplitr; · rw [MayWait_zero]; iempintro
    iexact Hat
  iintro ⟨HO, Hat, -, Hpay⟩
  imod (Rounds.cell_close ER (exRd m ρ) (Set.mem_univ (K (sIx c ⟨i, h⟩))) (fun h => h) (R := 0 + 1) (duties_later m ρ (sendCell c ⟨i, h⟩))) $$ [Hat] with Hz
  · isplitr; · iapply (inv_at m ρ K (sIx c ⟨i, h⟩)); iexact HK
    iexact Hat
  ihave Hp := (Entails.of_eq (rest_send m ρ c h1)) $$ Hpay
  iapply hrest
  unfold backSt owesE
  rw [bigSep_offsBelow h1 h]
  isplitr; · iexact HK
  isplitl [HO Hs Hd Hz Hp]
  · isplitl [HO]
    · iexists (insert (SemLoc.dma (sendS ⟨i, h⟩), ()) W); iexact HO
    isplitl [Hs]; · iexact Hs
    isplitl [Hz Hp]
    · isplitl [Hz]; · iexact Hz
      unfold sendPay; iexact Hp
    iexact Hd
  iexact HR

end Cert.KernelIdealRun

end
-- ==== Proof.BodyKernelIdeal.lean ====
/-
The kernel's body on one device, from its staged arguments to its result: the device gives every peer a slot of its
receive buffer (31 signals), computes its two experts' share for all rows, waits for the peers' slots (31 signals), sends
each peer its block (31 transfers), waits for the 31 blocks sent to it, sums, and waits for its own transfers.
-/
module

public import proofs.«01_k».proof.Proof.StepsKernelIdeal

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer as its blocks -/

theorem slot_disjoint {p q : Fin 32} (h : p ≠ q) : Disjoint (slot p) (slot q) :=
  Finset.disjoint_left.mpr fun i hp hq => h (Fin.ext ((mem_slot.mp hp).symm.trans (mem_slot.mp hq)))

/-- The places of the blocks `S` of a buffer. -/
def placesA (c : Dev nD) (S : Finset (Fin 32)) : Finset (Idx ((c : Thread nD τ).loc cc0_scratch0)) := S.biUnion slot
def placesR (c : Dev nD) (S : Finset (Fin 32)) : Finset (Idx ((c : Thread nD τ).loc cc0_scratch1)) := S.biUnion slot
theorem placesA_univ (c : Dev nD) : placesA c Finset.univ = Finset.univ :=
  Finset.eq_univ_of_forall fun i => Finset.mem_biUnion.mpr ⟨(show S32x8x256.Idx from i) 0, Finset.mem_univ _, mem_slot.mpr rfl⟩
theorem placesR_univ (c : Dev nD) : placesR c Finset.univ = Finset.univ :=
  Finset.eq_univ_of_forall fun i => Finset.mem_biUnion.mpr ⟨(show S32x8x256.Idx from i) 0, Finset.mem_univ _, mem_slot.mpr rfl⟩

theorem blocks_a (c : Dev nD) (S : Finset (Fin 32)) (f : Vec F S32x8x256 .bf16) :
    (((c : Thread nD τ).loc cc0_scratch0) ↦[placesA c S]{fullShare} f : sProp 𝕄) = bigSep S fun p : Fin 32 => aPts c p f := by
  have h := pointsTo_biUnion (Ix := Unit) (Name := ℕ) (U := UU) (Lvl := ℕ) (Val := Elt F) (ℓ := (c : Thread nD τ).loc cc0_scratch0) (q := fullShare) (f := f) S
    (fun p => (slot p : Finset (Idx ((c : Thread nD τ).loc cc0_scratch0)))) (fun p _ q _ h => slot_disjoint h)
  have e : placesA c S = S.biUnion (fun p => (slot p : Finset (Idx ((c : Thread nD τ).loc cc0_scratch0)))) :=
    Finset.ext fun i => Finset.mem_biUnion.trans Finset.mem_biUnion.symm
  unfold aPts
  rw [e]
  exact h
theorem blocks_r (c : Dev nD) (S : Finset (Fin 32)) (f : Vec F S32x8x256 .bf16) :
    (((c : Thread nD τ).loc cc0_scratch1) ↦[placesR c S]{fullShare} f : sProp 𝕄) = bigSep S fun p : Fin 32 => rPts c p f := by
  have h := pointsTo_biUnion (Ix := Unit) (Name := ℕ) (U := UU) (Lvl := ℕ) (Val := Elt F) (ℓ := (c : Thread nD τ).loc cc0_scratch1) (q := fullShare) (f := f) S
    (fun p => (slot p : Finset (Idx ((c : Thread nD τ).loc cc0_scratch1)))) (fun p _ q _ h => slot_disjoint h)
  have e : placesR c S = S.biUnion (fun p => (slot p : Finset (Idx ((c : Thread nD τ).loc cc0_scratch1)))) :=
    Finset.ext fun i => Finset.mem_biUnion.trans Finset.mem_biUnion.symm
  unfold rPts
  rw [e]
  exact h

/-- Device `c`'s partial-result buffer, whole, is its blocks. -/
theorem whole_a (c : Dev nD) (f : Vec F S32x8x256 .bf16) :
    (((c : Thread nD τ).loc cc0_scratch0) ↦{fullShare} f : sProp 𝕄) = bigSep Finset.univ fun p : Fin 32 => aPts c p f := by
  rw [← blocks_a, placesA_univ]
/-- Device `c`'s receive buffer, whole, is its slots. -/
theorem whole_r (c : Dev nD) (f : Vec F S32x8x256 .bf16) :
    (((c : Thread nD τ).loc cc0_scratch1) ↦{fullShare} f : sProp 𝕄) = bigSep Finset.univ fun p : Fin 32 => rPts c p f := by
  rw [← blocks_r, placesR_univ]

/-- The devices, by their offset after `c`. -/
def around (c : Dev nD) : Fin 32 ≃ Fin 32 where
  toFun d := fwd c d
  invFun e := ⟨(e.val + (32 - c.val)) % 32, Nat.mod_lt _ (by decide)⟩
  left_inv d := by have := val_lt_dev c; have := d.isLt; apply Fin.ext; simp only [fwd]; omega
  right_inv e := by have := val_lt_dev c; have := e.isLt; apply Fin.ext; simp only [fwd]; omega

theorem fwd_zero (c : Dev nD) : fwd c 0 = c := by
  have := val_lt_dev c; apply Fin.ext; show (c.val + 0) % 32 = c.val; omega

/-- One resource per device: `c`'s own and, by their offsets, the others'. -/
theorem bigSep_around {M : Type} [URA M] (c : Dev nD) (Φ : Fin 32 → sProp M) :
    bigSep Finset.univ Φ = iprop(Φ c ∗ bigSep (offs 1) fun d => Φ (fwd c d)) := by
  rw [bigSep_univ_equiv (around c) Φ, ← offs_zero, bigSep_offs (i := 0) (by decide)]
  show iprop(Φ (fwd c 0) ∗ _) = _
  rw [fwd_zero]; rfl
/-- One resource per offset: offset 0's and the others'. -/
theorem bigSep_zero {M : Type} [URA M] (Φ : Fin 32 → sProp M) :
    bigSep Finset.univ Φ = iprop(Φ 0 ∗ bigSep (offs 1) Φ) := by
  rw [← offs_zero, bigSep_offs (i := 0) (by decide)]; rfl

/-! ## The pipeline's proof data -/

/-- Device `c`'s positions at its cells, its duties at its own and its peers' cells. -/
def ghost (K : KIx → ℕ) (c : Dev nD) : sProp 𝕄 :=
  iprop(records m ρ K ∗ atPos ER (barCell c) 0 ∅ 0
    ∗ (bigSep Finset.univ fun d => atPos ER (sendCell c d) 0 ∅ 0) ∗ (bigSep Finset.univ fun d => atPos ER (recvCell c d) 0 ∅ 0)
    ∗ (bigSep (offs 1) fun d => dutyTok ER (barCell (fwd c d)) 0 d) ∗ (bigSep (offs 1) fun d => dutyTok ER (sendCell c d) 0 0)
    ∗ (bigSep (offs 1) fun d => dutyTok ER (recvCell (fwd c d) d) 0 0))

/-- With that, at some names: the credit for what the peers owe it, and the levels. -/
def start (c : Dev nD) : sProp 𝕄 :=
  iprop((∃ K, ghost m ρ K c) ∗ cred (tallyAt (barCell c) () 31) ∗ (bigSep (offs 1) fun d => cred (tallyAt (recvCell c d) () N)) ∗ levAts L lv)

abbrev buf (c : Dev nD) (b : Ref sig .tc) (X : b.ty.Contents (Elt F)) : sProp 𝕄 := ((c : Thread nD τ).loc b) ↦{fullShare} X

def Φ₀ (c : Dev nD) : sProp 𝕄 := iprop(start m ρ c ∗ (∃ f, buf c cc0_scratch0 f) ∗ ∃ f, buf c cc0_scratch1 f)
/-- After the body: the two buffers, whole, and every cell of the exchange closed at counter zero. -/
def Φ₁ (c : Dev nD) : sProp 𝕄 :=
  iprop((∃ f, buf c cc0_scratch0 f) ∗ (∃ f, buf c cc0_scratch1 f)
    ∗ (bigSep Finset.univ fun d => semVal (sendCell c d) 0) ∗ (bigSep Finset.univ fun d => semVal (recvCell c d) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rwst m ρ c
    | ⟨2, _⟩ => ixst m ρ c
    | ⟨3, _⟩ => ewst m ρ c
    | ⟨4, _⟩ => swst m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

variable (K : KIx → ℕ)

/-- The staged arguments. -/
def ins (c : Dev nD) : sProp 𝕄 :=
  iprop(buf c cc0_stg0_0 (xst m ρ c) ∗ buf c cc0_stg1_0 (rwst m ρ c) ∗ buf c cc0_stg2_0 (ixst m ρ c) ∗ buf c cc0_stg3_0 (ewst m ρ c) ∗ buf c cc0_stg4_0 (swst m ρ c))

/-- What the body starts from. -/
def pre (c : Dev nD) : sProp 𝕄 :=
  iprop(ghost m ρ K c ∗ cred (tallyAt (barCell c) () 31) ∗ (bigSep (offs 1) fun d => cred (tallyAt (recvCell c d) () N)) ∗ levAts L lv
    ∗ (∃ f, buf c cc0_scratch0 f) ∗ (∃ f, buf c cc0_scratch1 f) ∗ owesE c (O₀ c) ∗ ins m ρ c ∗ ∃ g, buf c cc0_stg5_0 g)
/-- What it ends with. -/
def post (c : Dev nD) : sProp 𝕄 :=
  iprop(Φ₁ c ∗ owesE c 0 ∗ ins m ρ c ∗ buf c cc0_stg5_0 (outAt m ρ c))

/-- Kept through everything: the credit for the peers' transfers, the positions at the send and receive cells, the slot at
    offset 0 (which no peer writes). -/
def kept (c : Dev nD) : sProp 𝕄 :=
  iprop((bigSep (offs 1) fun d => cred (tallyAt (recvCell c d) () N))
    ∗ (bigSep Finset.univ fun d => atPos ER (sendCell c d) 0 ∅ 0) ∗ (bigSep Finset.univ fun d => atPos ER (recvCell c d) 0 ∅ 0)
    ∗ ∃ f, rPts c 0 f)
/-- Beside the signals. -/
def besideSig (c : Dev nD) : sProp 𝕄 :=
  iprop(kept c ∗ cred (tallyAt (barCell c) () 31) ∗ levAts L lv ∗ atPos ER (barCell c) 0 ∅ 0
    ∗ (bigSep (offs 1) fun d => dutyTok ER (sendCell c d) 0 0) ∗ (bigSep (offs 1) fun d => dutyTok ER (recvCell (fwd c d) d) 0 0)
    ∗ (∃ f, buf c cc0_scratch0 f) ∗ ins m ρ c ∗ ∃ g, buf c cc0_stg5_0 g)

theorem to_signals (c : Dev nD) : pre m ρ K c ⊢ iprop(records m ρ K ∗ sigSt c 1 ∗ besideSig m ρ c) := by
  unfold pre ghost
  iintro ⟨⟨HK, Hab, Has, Har, Htb, Hts, Htr⟩, Hcb, Hcr, Hlev, Ha, ⟨%f, Hr⟩, HO, Hin, Hout⟩
  ihave Hr := (Entails.of_eq ((whole_r c f).trans ((bigSep_zero _).trans (by rw [bigSep_opp])))) $$ Hr
  icases Hr with ⟨Hr0, Hr⟩
  isplitl [HK]; · iexact HK
  isplitl [HO Htb Hr]
  · unfold sigSt O₀
    isplitl [HO]; · iexact HO
    rw [show (bigSep (offs 1) (sigIn c) : sProp 𝕄) = iprop((bigSep (offs 1) fun d => dutyTok ER (barCell (fwd c d)) 0 d) ∗ bigSep (offs 1) fun d => iprop(∃ f, rPts c (opp d) f)) from bigSep_sep' _ _ _]
    isplitl [Htb]; · iexact Htb
    ihave Hr := (show (bigSep (offs 1) fun d => rPts c (opp d) f : sProp 𝕄) ⊢ bigSep (offs 1) fun d => iprop(∃ f, rPts c (opp d) f) from
      bigSep_mono fun d _ => show rPts c (opp d) f ⊢ iprop(∃ f, rPts (F := F) c (opp d) f) by iintro H; iexists f; iexact H) $$ Hr
    iexact Hr
  unfold besideSig kept
  isplitl [Hcr Has Har Hr0]
  · isplitl [Hcr]; · iexact Hcr
    isplitl [Has]; · iexact Has
    isplitl [Har]; · iexact Har
    iexists f; iexact Hr0
  isplitl [Hcb]; · iexact Hcb
  isplitl [Hlev]; · iexact Hlev
  isplitl [Hab]; · iexact Hab
  isplitl [Hts]; · iexact Hts
  isplitl [Htr]; · iexact Htr
  isplitl [Ha]; · iexact Ha
  isplitl [Hin] <;> iassumption

theorem after_signals (c : Dev nD) : iprop(records m ρ K ∗ sigSt c 32 ∗ besideSig m ρ c) ⊢ iprop(records m ρ K ∗ owesE c (OR c 1) ∗ besideSig m ρ c) := by
  unfold sigSt
  rw [OB_end, add_zero]
  iintro ⟨HK, ⟨HO, -⟩, HB⟩
  isplitl [HK]; · iexact HK
  isplitl [HO] <;> iassumption

/-- Beside the wait at the barrier: the partial result is computed. -/
def besideBar (c : Dev nD) : sProp 𝕄 :=
  iprop(kept c ∗ (bigSep (offs 1) fun d => dutyTok ER (sendCell c d) 0 0) ∗ (bigSep (offs 1) fun d => dutyTok ER (recvCell (fwd c d) d) 0 0)
    ∗ buf c cc0_scratch0 (partAt m ρ c) ∗ ins m ρ c ∗ ∃ g, buf c cc0_stg5_0 g)
/-- Beside the transfers: the block no one is sent. -/
def besideSend (c : Dev nD) : sProp 𝕄 :=
  iprop(kept c ∗ semVal (barCell c) 0 ∗ aPts c c (partAt m ρ c) ∗ ins m ρ c ∗ ∃ g, buf c cc0_stg5_0 g)

theorem to_sends (c : Dev nD) :
    iprop(records m ρ K ∗ (owesE c (OR c 1) ∗ semVal (barCell c) 0 ∗ bigSep (offs 1) fun d => iprop(∃ f, rPts (fwd c d) d f)) ∗ besideBar m ρ c)
      ⊢ iprop(records m ρ K ∗ sendSt m ρ c 1 ∗ besideSend m ρ c) := by
  unfold besideBar
  iintro ⟨HK, ⟨HO, Hb, Hr⟩, Hkept, Hts, Htr, Ha, Hin, Hout⟩
  ihave Ha := (Entails.of_eq ((whole_a c (partAt m ρ c)).trans (bigSep_around c _))) $$ Ha
  icases Ha with ⟨Ha0, Ha⟩
  isplitl [HK]; · iexact HK
  isplitl [HO Hr Hts Htr Ha]
  · unfold sendSt
    isplitl [HO]; · iexact HO
    isplitl [Ha Hr Hts Htr]
    · rw [show (bigSep (offs 1) (sendIn m ρ c) : sProp 𝕄) = iprop((bigSep (offs 1) fun d => aPts c (fwd c d) (partAt m ρ c)) ∗ (bigSep (offs 1) fun d => iprop(∃ f, rPts (fwd c d) d f))
          ∗ (bigSep (offs 1) fun d => dutyTok ER (sendCell c d) 0 0) ∗ (bigSep (offs 1) fun d => dutyTok ER (recvCell (fwd c d) d) 0 0)) from by
        unfold sendIn; simp only [bigSep_sep']]
      isplitl [Ha]; · iexact Ha
      isplitl [Hr]; · iexact Hr
      isplitl [Hts] <;> iassumption
    rw [offsBelow_one, bigSep_empty]; iempintro
  unfold besideSend
  isplitl [Hkept]; · iexact Hkept
  isplitl [Hb]; · iexact Hb
  isplitl [Ha0]; · iexact Ha0
  isplitl [Hin] <;> iassumption

/-- When all transfers are on their way: nothing is owed any more. -/
theorem after_sends (c : Dev nD) : iprop(records m ρ K ∗ sendSt m ρ c 32 ∗ besideSend m ρ c)
    ⊢ iprop(records m ρ K ∗ owesE c 0 ∗ (bigSep (offs 1) fun d => cred (tallyAt (sendCell c d) () N)) ∗ besideSend m ρ c) := by
  unfold sendSt
  rw [OR_end, offsBelow_end]
  iintro ⟨HK, ⟨HO, -, Hc⟩, HB⟩
  isplitl [HK]; · iexact HK
  isplitl [HO]; · iexact HO
  isplitl [Hc] <;> iassumption

/-- Beside the waits for the peers' transfers. -/
def besideRecv (c : Dev nD) : sProp 𝕄 :=
  iprop((bigSep (offs 1) fun d => cred (tallyAt (sendCell c d) () N)) ∗ (bigSep Finset.univ fun d => atPos ER (sendCell c d) 0 ∅ 0)
    ∗ atPos ER (recvCell c 0) 0 ∅ 0 ∗ (∃ f, rPts c 0 f) ∗ semVal (barCell c) 0 ∗ aPts c c (partAt m ρ c) ∗ ins m ρ c ∗ ∃ g, buf c cc0_stg5_0 g)

theorem to_recvs (c : Dev nD) : iprop(records m ρ K ∗ owesE c 0 ∗ (bigSep (offs 1) fun d => cred (tallyAt (sendCell c d) () N)) ∗ besideSend m ρ c)
    ⊢ iprop(records m ρ K ∗ recvSt m ρ c 1 ∗ besideRecv m ρ c) := by
  unfold besideSend kept
  rw [bigSep_zero fun d => (atPos ER (recvCell c d) 0 ∅ 0 : sProp 𝕄)]
  iintro ⟨HK, HO, Hcs, ⟨Hcr, Has, ⟨Har0, Har⟩, Hr0⟩, Hb, Ha0, Hin, Hout⟩
  isplitl [HK]; · iexact HK
  isplitl [HO Hcr Har]
  · unfold recvSt
    rw [offsBelow_one, bigSep_empty, bigSep_sep']
    isplitl [HO]; · iexact HO
    isplitl [Hcr Har]
    · isplitl [Hcr] <;> iassumption
    iempintro
  unfold besideRecv
  isplitl [Hcs]; · iexact Hcs
  isplitl [Has]; · iexact Has
  isplitl [Har0]; · iexact Har0
  isplitl [Hr0]; · iexact Hr0
  isplitl [Hb]; · iexact Hb
  isplitl [Ha0]; · iexact Ha0
  isplitl [Hin] <;> iassumption

/-- When all blocks have arrived, the slots are read as one. -/
theorem after_recvs (c : Dev nD) : iprop(records m ρ K ∗ recvSt m ρ c 32 ∗ besideRecv m ρ c)
    ⊢ iprop(records m ρ K ∗ owesE c 0 ∗ (bigSep (offs 1) fun d => semVal (recvCell c d) 0)
      ∗ (((c : Thread nD τ).loc cc0_scratch1) ↦[placesR c (offs 1)]{fullShare} (recvAt m ρ c)) ∗ besideRecv m ρ c) := by
  unfold recvSt
  rw [offsBelow_end, offs_end, bigSep_empty, bigSep_sep', blocks_r]
  iintro ⟨HK, ⟨HO, -, ⟨Hz, Hr⟩⟩, HB⟩
  isplitl [HK]; · iexact HK
  isplitl [HO]; · iexact HO
  isplitl [Hz]; · iexact Hz
  isplitl [Hr] <;> iassumption

/-- Beside the waits for one's own transfers: the result is stored. -/
def besideBack (c : Dev nD) : sProp 𝕄 :=
  iprop(atPos ER (sendCell c 0) 0 ∅ 0 ∗ atPos ER (recvCell c 0) 0 ∅ 0 ∗ (∃ f, rPts c 0 f) ∗ (bigSep (offs 1) fun d => semVal (recvCell c d) 0)
    ∗ (((c : Thread nD τ).loc cc0_scratch1) ↦[placesR c (offs 1)]{fullShare} (recvAt m ρ c))
    ∗ semVal (barCell c) 0 ∗ aPts c c (partAt m ρ c) ∗ ins m ρ c ∗ buf c cc0_stg5_0 (outAt m ρ c))

/-- Slot 0 at some contents and the others at other contents: the whole buffer at some. -/
theorem join_r (c : Dev nD) (f g : Vec F S32x8x256 .bf16) :
    iprop(rPts c 0 f ∗ bigSep (offs 1) fun d => rPts c d g) ⊢ iprop(∃ f, buf (F := F) c cc0_scratch1 f) := by
  let w : Vec F S32x8x256 .bf16 := fun i => if (i 0).val = 0 then f i else g i
  have h0 : (rPts c 0 f : sProp 𝕄) = rPts c 0 w := pointsTo_congr fun i hi => (if_pos (mem_slot.mp hi)).symm
  have h1 : (bigSep (offs 1) fun d => (rPts c d g : sProp 𝕄)) = bigSep (offs 1) fun d => rPts c d w :=
    bigSep_congr fun d hd => pointsTo_congr fun i hi => (if_neg (by have := mem_slot.mp hi; have := mem_offs.mp hd; omega)).symm
  rw [h0, h1]
  iintro H
  iexists w
  ihave H := (Entails.of_eq ((bigSep_zero fun d => (rPts c d w : sProp 𝕄)).symm.trans (whole_r c w).symm)) $$ H
  iexact H

theorem after_backs (c : Dev nD) : iprop(records m ρ K ∗ backSt m ρ c 32 ∗ besideBack m ρ c) ⊢ iprop(|={Set.univ}=> post m ρ c) := by
  unfold backSt besideBack
  rw [offsBelow_end, offs_end, bigSep_empty, bigSep_sep', blocks_r]
  iintro ⟨#HK, ⟨HO, -, ⟨Hz, Ha⟩⟩, Has0, Har0, ⟨%f, Hr0⟩, Hzr, Hr, Hb, Ha0, Hin, Hout⟩
  imod (Rounds.cell_close ER (exRd m ρ) (Set.mem_univ (K (sIx c 0))) (fun h => h) (R := 0)
    (fun r _ => if h : r = 0 then h ▸ duties_send_zero m ρ c else duties_later m ρ _ r (by omega))) $$ [Has0] with Hzs0
  · isplitr; · iapply (inv_at m ρ K (sIx c 0)); iexact HK
    iexact Has0
  imod (Rounds.cell_close ER (exRd m ρ) (Set.mem_univ (K (rIx c 0))) (fun h => h) (R := 0)
    (fun r _ => if h : r = 0 then h ▸ duties_recv_zero m ρ c else duties_later m ρ _ r (by omega))) $$ [Har0] with Hzr0
  · isplitr; · iapply (inv_at m ρ K (rIx c 0)); iexact HK
    iexact Har0
  imodintro
  unfold post Φ₁
  rw [bigSep_zero fun d => (semVal (sendCell c d) 0 : sProp 𝕄), bigSep_zero fun d => (semVal (recvCell c d) 0 : sProp 𝕄)]
  isplitl [Ha0 Ha Hr0 Hr Hz Hzs0 Hzr Hzr0 Hb]
  · isplitl [Ha0 Ha]
    · iexists (partAt m ρ c)
      iapply (Entails.of_eq ((bigSep_around c fun p => (aPts c p (partAt m ρ c) : sProp 𝕄)).symm.trans (whole_a c (partAt m ρ c)).symm))
      isplitl [Ha0] <;> iassumption
    isplitl [Hr0 Hr]
    · iapply (join_r c f (recvAt m ρ c))
      isplitl [Hr0] <;> iassumption
    isplitl [Hz Hzs0]
    · isplitl [Hzs0] <;> iassumption
    isplitl [Hzr Hzr0]
    · isplitl [Hzr0] <;> iassumption
    iexact Hb
  isplitl [HO]; · iexact HO
  isplitl [Hin] <;> iassumption

abbrev wholeRect : Rect S32x8x256 := Rect.unit (s := S32x8x256) ![0, 0, 0] S32x8x256.size inb_S32x8x256_S32x8x256_0_0_0
abbrev outRect : Rect S8x256 := Rect.unit (s := S8x256) ![0, 0] S8x256.size inb_S8x256_S8x256_0_0

theorem zero2 : (![0, 0] : Fin 2 → ℕ) = fun _ => 0 := funext fun a => by fin_cases a <;> rfl
theorem zero3 : (![0, 0, 0] : Fin 3 → ℕ) = fun _ => 0 := funext fun a => by fin_cases a <;> rfl

theorem read_x (f : Vec F S256x128 .bf16) : (Memref.whole cc0_stg0_0 : Memref sig .tc .vmem S256x128 .bf16).view.readAt (Elt F) (Rect.unit (s := S256x128) ![0, 0] S256x128.size inb_S256x128_S256x128_0_0).toLoadRect f = f :=
  Memref.readAt_unit_zero (Elt F) cc0_stg0_0 zero2 _ f
theorem read_rw (f : Vec F S128x64 .bf16) : (Memref.whole cc0_stg1_0 : Memref sig .tc .vmem S128x64 .bf16).view.readAt (Elt F) (Rect.unit (s := S128x64) ![0, 0] S128x64.size inb_S128x64_S128x64_0_0).toLoadRect f = f :=
  Memref.readAt_unit_zero (Elt F) cc0_stg1_0 zero2 _ f
theorem read_ix (f : Vec F S256x1 .i32) : (Memref.whole cc0_stg2_0 : Memref sig .tc .vmem S256x1 .i32).view.readAt (Elt F) (Rect.unit (s := S256x1) ![0, 0] S256x1.size inb_S256x1_S256x1_0_0).toLoadRect f = f :=
  Memref.readAt_unit_zero (Elt F) cc0_stg2_0 zero2 _ f
theorem read_sw (f : Vec F S128x256 .bf16) : (Memref.whole cc0_stg4_0 : Memref sig .tc .vmem S128x256 .bf16).view.readAt (Elt F) (Rect.unit (s := S128x256) ![0, 0] S128x256.size inb_S128x256_S128x256_0_0).toLoadRect f = f :=
  Memref.readAt_unit_zero (Elt F) cc0_stg4_0 zero2 _ f
theorem write_a (f w : Vec F S32x8x256 .bf16) : (aM.access wholeRect : View sig .tc _ _ _).write (Elt F) f w Finset.univ = w :=
  Memref.write_access_unit_zero_univ (Elt F) cc0_scratch0 zero3 _ f w
theorem write_out (f w : Vec F S8x256 .f32) : ((Memref.whole cc0_stg5_0 : Memref sig .tc .vmem S8x256 .f32).access outRect : View sig .tc _ _ _).write (Elt F) f w Finset.univ = w :=
  Memref.write_access_unit_zero_univ (Elt F) cc0_stg5_0 zero2 _ f w

/-- A device's own block lies in its block of the buffer. -/
theorem own_block (c : Dev nD) : (aM : Memref sig .tc .vmem S32x8x256 .bf16).view.setOn (Rect.unit (s := S32x8x256) (k0_off3 c) S1x8x256.size (k0_off3_inb c)).toLoadRect.set ⊆ slot c := by
  have e := set_rect c (k0_off3 c) (k0_off3_inb c) (k0_off3_eq c)
  intro i hi
  obtain ⟨x, hx, rfl⟩ := Finset.mem_map.mp hi
  rw [← e]
  have hx' : x ∈ (Rect.unit (s := S32x8x256) (k0_off3 c) S1x8x256.size (k0_off3_inb c)).set := by simpa using hx
  exact hx'
/-- The rows read for the sum lie in the nonzero slots. -/
theorem nonzero_slots (c : Dev nD) : (rM : Memref sig .tc .vmem S32x8x256 .bf16).view.setOn (Rect.unit (s := S32x8x256) ![1, 0, 0] S31x8x256.size inb_S32x8x256_S31x8x256_1_0_0).toLoadRect.set ⊆ placesR c (offs 1) := by
  intro i hi
  obtain ⟨x, hx, rfl⟩ := Finset.mem_map.mp hi
  have hx' : x ∈ (Rect.unit (s := S32x8x256) ![1, 0, 0] S31x8x256.size inb_S32x8x256_S31x8x256_1_0_0).set := by simpa using hx
  have h0 := Rect.mem_set_unit.mp hx' 0
  exact Finset.mem_biUnion.mpr ⟨x 0, mem_offs.mpr h0.1, mem_slot.mpr rfl⟩

set_option maxRecDepth 20000 in
/-- From what a device starts with, its body ends with its result stored and every cell of the exchange closed. -/
theorem sound_body (c : Dev nD) :
    pre m ρ K c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) cc0_scratch2 cc0_scratch3)
      fun _ => post m ρ c := by
  refine (to_signals m ρ K c).trans ?_
  simp only [cc0_body_eq_skeleton, cc0_body_skel, k0_part37_eq_skeleton, k0_part37_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel,
    semSignalWord, semWaitWord, Prog.lift, Prog.bind_op, Prog.bind_ret, Prog.pure_eq_ret, wp_deviceId]
  -- the 31 signals
  iterate 31 refine step_signal m ρ K c (by decide) (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]) (by decide) ?_
  refine (after_signals m ρ K c).trans ?_
  simp only [k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel,
    semSignalWord, semWaitWord, Prog.lift, Prog.bind_op, Prog.bind_ret, Prog.pure_eq_ret]
  -- the partial result
  unfold besideSig ins
  iintro ⟨HK, HO, Hkept, Hcb, Hlev, Hab, Hts, Htr, ⟨%fa, Ha⟩, ⟨Hx, Hrw, Hix, Hew, Hsw⟩, Hout⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg1_0) (Finset.subset_univ _)) $$ Hrw; iintro Hrw
  iapply (wp_load 𝒱₀ (c : Thread nD τ) none Set.univ (m := Memref.whole cc0_stg2_0) (Finset.subset_univ _)) $$ Hix; iintro Hix
  iapply (wp_load 𝒱₀ (c : Thread nD τ) none Set.univ (m := Memref.whole cc0_stg3_0) (Finset.subset_univ _)) $$ Hew; iintro Hew
  iapply (wp_load 𝒱₀ (c : Thread nD τ) none Set.univ (m := Memref.whole cc0_stg3_0) (Finset.subset_univ _)) $$ Hew; iintro Hew
  iapply (wp_load 𝒱₀ (c : Thread nD τ) none Set.univ (m := aM) (Finset.subset_univ _)) $$ Ha; iintro Ha
  iapply (wp_store 𝒱₀ (c : Thread nD τ) none Set.univ (m := aM) (r := wholeRect) (Mk := Finset.univ) (Finset.subset_univ _)) $$ Ha; iintro Ha
  istop
  refine (show _ ⊢ iprop(records m ρ K ∗ (owesE c (OR c 1) ∗ cred (tallyAt (barCell c) () 31) ∗ levAts L lv ∗ atPos ER (barCell c) 0 ∅ 0) ∗ besideBar m ρ c) from ?_).trans ?_
  · rw [read_x, read_rw, read_ix, write_a]
    iintro ⟨⟨⟨⟨⟨⟨⟨⟨⟨⟨⟨⟨⟨⟨HK, HO⟩, Hkept⟩, Hcb⟩, Hlev⟩, Hab⟩, Hts⟩, Htr⟩, Hsw⟩, Hout⟩, Hx⟩, Hrw⟩, Hix⟩, Hew⟩, Ha⟩
    isplitl [HK]; · iexact HK
    isplitl [HO Hcb Hlev Hab]
    · isplitl [HO]; · iexact HO
      isplitl [Hcb]; · iexact Hcb
      isplitl [Hlev] <;> iassumption
    unfold besideBar ins
    isplitl [Hkept]; · iexact Hkept
    isplitl [Hts]; · iexact Hts
    isplitl [Htr]; · iexact Htr
    isplitl [Ha]; · unfold partAt word; iexact Ha
    isplitl [Hx Hrw Hix Hew Hsw]
    · isplitl [Hx]; · iexact Hx
      isplitl [Hrw]; · iexact Hrw
      isplitl [Hix]; · iexact Hix
      isplitl [Hew] <;> iassumption
    iexact Hout
  refine step_bar m ρ K c (by decide) ?_
  refine (to_sends m ρ K c).trans ?_
  -- the 31 transfers
  iterate 31 refine step_send m ρ K c (by decide) (by decide) (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]) (off_send c _ (by decide) (by decide)) rfl rfl rfl ?_
  refine (after_sends m ρ K c).trans ?_
  simp only [k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel,
    semSignalWord, semWaitWord, Prog.lift, Prog.bind_op, Prog.bind_ret, Prog.pure_eq_ret]
  -- the loads for the device's own part
  unfold besideSend ins
  iintro ⟨HK, HO, Hcs, Hkept, Hb, Ha, ⟨Hx, Hrw, Hix, Hew, Hsw⟩, Hout⟩
  iapply (wp_load 𝒱₀ (c : Thread nD τ) none Set.univ (m := Memref.whole cc0_stg0_0) (Finset.subset_univ _)) $$ Hx; iintro Hx
  iapply (wp_load 𝒱₀ (c : Thread nD τ) none Set.univ (m := Memref.whole cc0_stg4_0) (Finset.subset_univ _)) $$ Hsw; iintro Hsw
  unfold aPts
  iapply (wp_load 𝒱₀ (c : Thread nD τ) none Set.univ (m := aM) (own_block c)) $$ Ha; iintro Ha
  istop
  refine (show _ ⊢ iprop(records m ρ K ∗ owesE c 0 ∗ (bigSep (offs 1) fun d => cred (tallyAt (sendCell c d) () N)) ∗ besideSend m ρ c) from ?_).trans ?_
  · iintro ⟨⟨⟨⟨⟨⟨⟨⟨⟨⟨⟨HK, HO⟩, Hcs⟩, Hkept⟩, Hb⟩, Hrw⟩, Hix⟩, Hew⟩, Hout⟩, Hx⟩, Hsw⟩, Ha⟩
    isplitl [HK]; · iexact HK
    isplitl [HO]; · iexact HO
    isplitl [Hcs]; · iexact Hcs
    unfold besideSend ins aPts
    isplitl [Hkept]; · iexact Hkept
    isplitl [Hb]; · iexact Hb
    isplitl [Ha]; · iexact Ha
    isplitl [Hx Hrw Hix Hew Hsw]
    · isplitl [Hx]; · iexact Hx
      isplitl [Hrw]; · iexact Hrw
      isplitl [Hix]; · iexact Hix
      isplitl [Hew] <;> iassumption
    iexact Hout
  rw [read_sw]
  refine (to_recvs m ρ K c).trans ?_
  -- the 31 waits for the peers' blocks
  iterate 31 refine step_recv m ρ K c (by decide) (by decide) rfl rfl ?_
  refine (after_recvs m ρ K c).trans ?_
  simp only [k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel,
    semSignalWord, semWaitWord, Prog.lift, Prog.bind_op, Prog.bind_ret, Prog.pure_eq_ret]
  -- the sum and the result
  unfold besideRecv
  iintro ⟨HK, HO, Hzr, Hr, Hcs, Has, Har0, Hr0, Hb, Ha, Hin, ⟨%g, Hout⟩⟩
  iapply (wp_load 𝒱₀ (c : Thread nD τ) none Set.univ (m := rM) (nonzero_slots c)) $$ Hr; iintro Hr
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := outRect) (Mk := Finset.univ) (Finset.subset_univ _)) $$ Hout; iintro Hout
  istop
  refine (show _ ⊢ iprop(records m ρ K ∗ backSt m ρ c 1 ∗ besideBack m ρ c) from ?_).trans ?_
  · rw [write_out]
    iintro ⟨⟨⟨⟨⟨⟨⟨⟨⟨⟨⟨HK, HO⟩, Hzr⟩, Hcs⟩, Has⟩, Har0⟩, Hr0⟩, Hb⟩, Ha⟩, Hin⟩, Hr⟩, Hout⟩
    ihave Has := (Entails.of_eq (bigSep_zero fun d => (atPos ER (sendCell c d) 0 ∅ 0 : sProp 𝕄))) $$ Has
    icases Has with ⟨Has0, Has⟩
    isplitl [HK]; · iexact HK
    isplitl [HO Hcs Has]
    · unfold backSt
      rw [offsBelow_one, bigSep_empty, bigSep_sep']
      isplitl [HO]; · iexact HO
      isplitl [Hcs Has]
      · isplitl [Hcs] <;> iassumption
      iempintro
    unfold besideBack
    isplitl [Has0]; · iexact Has0
    isplitl [Har0]; · iexact Har0
    isplitl [Hr0]; · iexact Hr0
    isplitl [Hzr]; · iexact Hzr
    isplitl [Hr]; · iexact Hr
    isplitl [Hb]; · iexact Hb
    isplitl [Ha]; · iexact Ha
    isplitl [Hin]; · iexact Hin
    unfold outAt; iexact Hout
  -- the 31 waits for its own transfers
  iterate 31 refine step_back m ρ K c (by decide) (by decide) rfl rfl ?_
  refine (after_backs m ρ K c).trans ?_
  rw [wp_ret]

/-! ## The library's body obligation -/

theorem N_one : cfg0.N = 1 := by decide
def t₀ : Fin cfg0.N := ⟨0, by rw [N_one]; decide⟩
theorem fin_N (t : Fin cfg0.N) : t = t₀ := by
  obtain ⟨t, ht⟩ := t; have := N_one; exact Fin.ext (by simp only [t₀]; omega)
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The obligation's precondition and postcondition, spelled out. -/
def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d)) ∗ (∃ d, stg c cc0_stg1_0 ((dats m ρ 0 c).before (1 : Fin 6) t₀ d))
    ∗ (∃ d, stg c cc0_stg2_0 ((dats m ρ 0 c).before (2 : Fin 6) t₀ d)) ∗ (∃ d, stg c cc0_stg3_0 ((dats m ρ 0 c).before (3 : Fin 6) t₀ d))
    ∗ (∃ d, stg c cc0_stg4_0 ((dats m ρ 0 c).before (4 : Fin 6) t₀ d)) ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xst m ρ c) ∗ stg c cc0_stg1_0 (rwst m ρ c) ∗ stg c cc0_stg2_0 (ixst m ρ c)
    ∗ stg c cc0_stg3_0 (ewst m ρ c) ∗ stg c cc0_stg4_0 (swst m ρ c) ∗ stg c cc0_stg5_0 (outAt m ρ c))

theorem stg_intro (c : Dev nD) (b : Ref sig .tc) (X : b.ty.Contents (Elt F)) : buf c b X ⊢ stg c b X := by
  iintro H; iexists X; isplitr; · (ipureintro; rfl)
  iexact H

theorem bodyPre_pre (c : Dev nD) : bodyPre m ρ c ⊢ iprop(∃ K, pre m ρ K c) := by
  unfold bodyPre Φ₀ start
  iintro ⟨⟨⟨⟨%K, Hg⟩, Hcb, Hcr, Hlev⟩, Ha, Hr⟩, Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have h0 : g0 = xst m ρ c := by rw [hg0]; unfold Dat.before; rw [if_pos (fetch0_0 t₀)]; rfl
  have h1 : g1 = rwst m ρ c := by rw [hg1]; unfold Dat.before; rw [if_pos (fetch0_1 t₀)]; rfl
  have h2 : g2 = ixst m ρ c := by rw [hg2]; unfold Dat.before; rw [if_pos (fetch0_2 t₀)]; rfl
  have h3 : g3 = ewst m ρ c := by rw [hg3]; unfold Dat.before; rw [if_pos (fetch0_3 t₀)]; rfl
  have h4 : g4 = swst m ρ c := by rw [hg4]; unfold Dat.before; rw [if_pos (fetch0_4 t₀)]; rfl
  subst h0 h1 h2 h3 h4
  unfold Dat.owesAt Pipeline.owesWithin
  icases Ho with ⟨%W, %hW, HO⟩
  rw [show (dats m ρ 0 c).owed t₀.castSucc = O₀ c from rfl]
  iexists K
  unfold pre owesE ins
  isplitl [Hg]; · iexact Hg
  isplitl [Hcb]; · iexact Hcb
  isplitl [Hcr]; · iexact Hcr
  isplitl [Hlev]; · iexact Hlev
  isplitl [Ha]; · iexact Ha
  isplitl [Hr]; · iexact Hr
  isplitl [HO]; · iexists W; iexact HO
  isplitl [H0 H1 H2 H3 H4]
  · isplitl [H0]; · iexact H0
    isplitl [H1]; · iexact H1
    isplitl [H2]; · iexact H2
    isplitl [H3] <;> iassumption
  iexists g5; iexact H5

theorem post_bodyPost (c : Dev nD) : post m ρ c ⊢ bodyPost m ρ c := by
  unfold post bodyPost owesE ins Dat.owesAt Pipeline.owesWithin
  rw [show (dats m ρ 0 c).owed t₀.succ = 0 from rfl]
  iintro ⟨HΦ, ⟨%W, HO⟩, ⟨H0, H1, H2, H3, H4⟩, H5⟩
  isplitl [HΦ]; · iexact HΦ
  isplitl [HO]
  · iexists W
    isplitr; · ipureintro; exact fun _ _ => Or.inl trivial
    iexact HO
  isplitl [H0]; · iapply (stg_intro c cc0_stg0_0 (xst m ρ c)); iexact H0
  isplitl [H1]; · iapply (stg_intro c cc0_stg1_0 (rwst m ρ c)); iexact H1
  isplitl [H2]; · iapply (stg_intro c cc0_stg2_0 (ixst m ρ c)); iexact H2
  isplitl [H3]; · iapply (stg_intro c cc0_stg3_0 (ewst m ρ c)); iexact H3
  isplitl [H4]; · iapply (stg_intro c cc0_stg4_0 (swst m ρ c)); iexact H4
  iapply (stg_intro c cc0_stg5_0 (outAt m ρ c)); iexact H5

set_option maxRecDepth 100000 in
/-- What the library asks of the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _)
        (Memref.whole cc0_stg3_0) (Memref.isWhole_whole _) (Memref.whole cc0_stg4_0) (Memref.isWhole_whole _) (Memref.whole cc0_stg5_0) (Memref.isWhole_whole _)
        (Memref.whole cc0_scratch0) (Memref.isWhole_whole _) (Memref.whole cc0_scratch1) (Memref.isWhole_whole _) cc0_scratch2 cc0_scratch3)
      fun _ => bodyPost m ρ c
  iintro H
  ihave H := (bodyPre_pre m ρ c) $$ H
  icases H with ⟨%K, H⟩
  iapply ((sound_body m ρ K c).trans (wp_mono _ _ _ (fun _ => post_bodyPost m ρ c)))
  iexact H

end Cert.KernelIdealRun

end
-- ==== Proof.LaunchKernelIdeal.lean ====
/-
The launch: every device's cells and duties are handed out, the duties regrouped from the cell they are owed to to the
device that pays them, and the run of the whole program follows from the body's.
-/
module

public import proofs.«01_k».proof.Proof.BodyKernelIdeal
public import Idealize.ShloMosaic.Lib.Pipeline.CollectiveSegs
public import Idealize.ShloMosaic.Lib.Pipeline.Value
public import Idealize.ShloMosaic.Lib.StableHlo.RunHlo

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem osem_inj : Function.Injective osem := by
  rintro (d | d) (e | e) h
  · exact congrArg Sum.inl (sendS_inj (SemLoc.dma.inj h))
  · exact absurd (SemLoc.dma.inj h) (sendS_ne_recvS d e)
  · exact absurd (SemLoc.dma.inj h).symm (sendS_ne_recvS e d)
  · exact congrArg Sum.inr (recvS_inj (SemLoc.dma.inj h))
theorem csem_inj : Function.Injective csem := by
  rintro (u | k) (u' | k') h
  · rfl
  · rcases k' with d | d <;> cases h
  · rcases k with d | d <;> cases h
  · exact congrArg Sum.inr (osem_inj h)
theorem kcell_inj : Function.Injective kcell := by
  rintro ⟨c, k⟩ ⟨c', k'⟩ h
  have h1 : c = c' := congrArg (fun g : GSem nD τ sig => g.1.1) h
  subst h1
  exact congrArg (Prod.mk c) (csem_inj (congrArg Prod.snd h))

/-- The send and receive semaphores are the kernel's own, none a staging semaphore. -/
theorem ownSemFacts : Pipeline.OwnSemFacts cfg0.spec osem where
  isScoped k := by revert k; decide +kernel
  inj := osem_inj
  disj k w s := by
    revert k w s; decide +kernel

theorem share_eq (c : Dev nD) (w : Fin cfg0.W) : (dats m ρ 0 c).share w = fullShare := by unfold Dat.share; split <;> rfl

/-- The cells of the exchange. -/
def exCells : Finset (GSem nD τ sig) := Finset.univ.map ⟨kcell, kcell_inj⟩

/-- A device's own cells' duties: its barrier's one per offset, each send's and each receive's one. -/
def tokOf (ck : Dev nD × (Fin 32 ⊕ (Fin 32 ⊕ Fin 32))) : GSem nD τ sig × ℕ × Fin 32 :=
  Sum.elim (fun d => (barCell ck.1, 0, d)) (Sum.elim (fun d => (sendCell ck.1 d, 0, 0)) (fun d => (recvCell ck.1 d, 0, 0))) ck.2
theorem tokOf_inj : Function.Injective tokOf := by
  rintro ⟨c, k⟩ ⟨c', k'⟩ h
  have h1 : c = c' := by
    have := congrArg (fun x : GSem nD τ sig × ℕ × Fin 32 => x.1.1.1) h
    rcases k with d | d | d <;> rcases k' with e | e | e <;> exact this
  subst h1
  refine congrArg (Prod.mk c) ?_
  have hs := congrArg (fun x : GSem nD τ sig × ℕ × Fin 32 => x.1.2) h
  have hd := congrArg (fun x : GSem nD τ sig × ℕ × Fin 32 => x.2.2) h
  rcases k with d | k <;> rcases k' with e | k'
  · exact congrArg Sum.inl hd
  · rcases k' with e | e <;> cases hs
  · rcases k with d | d <;> cases hs
  · refine congrArg Sum.inr (osem_inj ?_)
    rcases k with d | d <;> rcases k' with e | e <;> exact hs
def exToks : Finset (GSem nD τ sig × ℕ × Fin 32) := Finset.univ.map ⟨tokOf, tokOf_inj⟩

def u₀ : UU :=
  (initOf (Pipeline.cells cfgs cellOf_inj) (Pipeline.launchToks cfgs cellOf_inj), initOf exCells exToks)

/-- The duties of device `c`'s own cells. -/
def toks (c : Dev nD) : sProp 𝕄 :=
  iprop((bigSep Finset.univ fun d : Fin 32 => dutyTok ER (barCell c) 0 d) ∗ (bigSep Finset.univ fun d : Fin 32 => dutyTok ER (sendCell c d) 0 (0 : Fin 32))
    ∗ bigSep Finset.univ fun d : Fin 32 => dutyTok ER (recvCell c d) 0 (0 : Fin 32))

/-- One resource per cell of a device: its barrier's, its sends', its receives'. -/
theorem bigSep_cells {M : Type} [URA M] (Φ : Unit ⊕ (Fin 32 ⊕ Fin 32) → sProp M) :
    bigSep Finset.univ Φ = iprop(Φ (.inl ()) ∗ (bigSep Finset.univ fun d => Φ (.inr (.inl d))) ∗ bigSep Finset.univ fun d => Φ (.inr (.inr d))) := by
  rw [bigSep_univ_sum, bigSep_univ_sum, bigSep_univ_of_subsingleton ()]; rfl

abbrev KK := Unit ⊕ (Fin 32 ⊕ Fin 32)

/-- What the launch deals device `c`: its cells' states, its positions at them, their duties. -/
def G (c : Dev nD) : sProp 𝕄 :=
  iprop((bigSep Finset.univ fun k : KK => roundState ER (exRd m ρ) (kcell (c, k)) 0)
    ∗ (bigSep Finset.univ fun k : KK => iprop(atPos ER (kcell (c, k)) 0 ∅ 0 ∗ reached ER (kcell (c, k)) 0)) ∗ toks c)

def G' (c : Dev nD) : sProp 𝕄 := iprop(∃ K, ghost m ρ K c)

theorem fund_cells : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : KK => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

/-- The send and receive semaphores are the kernel's own; -/
theorem ownSems0_eq (c : Dev nD) : (Pipeline.ownSems0 (Ix := Unit) (Name := ℕ) (U := UU) (Lvl := ℕ) (Val := Elt F) (τ := τ) osem c : sProp 𝕄)
    = iprop((bigSep Finset.univ fun d => semVal (sendCell c d) 0) ∗ bigSep Finset.univ fun d => semVal (recvCell c d) 0) := by
  unfold Pipeline.ownSems0; rw [bigSep_univ_sum]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KK => semVal (kcell (c, k)) 0 : sProp 𝕄) := by
  rw [ownSems0_eq, unscopedSems0_eq, bigSep_cells]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KK => iprop(∃ κ : ℕ, cellInv ER (exRd m ρ) κ (kcell (c, k))))
          ∗ (bigSep Finset.univ fun k : KK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KK => semVal (kcell (c, k)) 0) ∗ bigSep Finset.univ fun k : KK => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties, from the cell owed to the payer -/

/-- The devices, each moved by an offset. -/
def shift : Dev nD × Fin 32 ≃ Dev nD × Fin 32 :=
  ⟨fun x => (fwd x.1 x.2, x.2), fun x => (bwd x.1 x.2, x.2), fun x => Prod.ext (bwd_fwd x.1 x.2) rfl, fun x => Prod.ext (fwd_bwd x.1 x.2) rfl⟩

/-- One resource per device and offset, dealt to each device or to the device at the offset before it. -/
theorem bigSep_shift (Φ : Dev nD → Fin 32 → sProp 𝕄) :
    (bigSep Finset.univ fun c : Dev nD => bigSep Finset.univ fun d : Fin 32 => Φ c d)
      ⊢ bigSep Finset.univ fun c : Dev nD => bigSep (offs 1) fun d => Φ (fwd c d) d := by
  rw [← bigSep_univ_prod (fun x : Dev nD × Fin 32 => Φ x.1 x.2), bigSep_univ_equiv shift (fun x : Dev nD × Fin 32 => Φ x.1 x.2), bigSep_univ_prod]
  exact bigSep_mono fun c _ => show (_ : sProp 𝕄) ⊢ _ from bigSep_subset (Φ := fun d => Φ (fwd c d) d) (Finset.subset_univ _)

/-- The duties device `c` pays: at its peers' barriers, at its own sends, at its peers' receives. -/
def payToks (c : Dev nD) : sProp 𝕄 :=
  iprop((bigSep (offs 1) fun d => dutyTok ER (barCell (fwd c d)) 0 d) ∗ (bigSep (offs 1) fun d => dutyTok ER (sendCell c d) 0 (0 : Fin 32))
    ∗ (bigSep (offs 1) fun d => dutyTok ER (recvCell (fwd c d) d) 0 (0 : Fin 32)))

theorem toks_around : (bigSep Finset.univ fun c : Dev nD => (toks c : sProp 𝕄)) ⊢ bigSep Finset.univ fun c : Dev nD => payToks c := by
  unfold toks payToks
  rw [bigSep_sep', bigSep_sep', bigSep_sep', bigSep_sep']
  iintro ⟨H1, H2, H3⟩
  isplitl [H1]
  · iapply (bigSep_shift (F := F) (fun c d => dutyTok ER (barCell c) 0 d)); iexact H1
  isplitl [H2]
  · iapply (show (bigSep Finset.univ fun c : Dev nD => bigSep Finset.univ fun d : Fin 32 => (dutyTok ER (sendCell c d) 0 (0 : Fin 32) : sProp 𝕄))
        ⊢ bigSep Finset.univ fun c : Dev nD => bigSep (offs 1) fun d => dutyTok ER (sendCell c d) 0 (0 : Fin 32) from
      bigSep_mono fun c _ => show (_ : sProp 𝕄) ⊢ _ from bigSep_subset (Φ := fun d => (dutyTok ER (sendCell c d) 0 (0 : Fin 32) : sProp 𝕄)) (Finset.subset_univ _))
    iexact H2
  · iapply (bigSep_shift (F := F) (fun c d => dutyTok ER (recvCell c d) 0 (0 : Fin 32))); iexact H3

def linear (c : Dev nD) : sProp 𝕄 := iprop((bigSep Finset.univ fun k : KK => atPos ER (kcell (c, k)) 0 ∅ 0) ∗ payToks c)

theorem ghost_intro (K : KIx → ℕ) (c : Dev nD) : iprop(records m ρ K ∗ linear c) ⊢ G' m ρ c := by
  unfold linear payToks G' ghost
  rw [bigSep_cells]
  iintro ⟨HI, ⟨HaB, HaS, HaV⟩, HtB, HtS, HtV⟩
  iexists K
  isplitl [HI]; · iexact HI
  isplitl [HaB]; · iexact HaB
  isplitl [HaS]; · iexact HaS
  isplitl [HaV]; · iexact HaV
  isplitl [HtB]; · iexact HtB
  isplitl [HtS]; · iexact HtS
  iexact HtV

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KK => iprop(∃ κ : ℕ, cellInv ER (exRd m ρ) κ (kcell (c, k))))
          ∗ (bigSep Finset.univ fun k : KK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : KIx => iprop(∃ κ : ℕ, cellInv ER (exRd m ρ) κ (kcell ck))),
    bigSep_congr (s := Finset.univ) (fun (c : Dev nD) _ => bigSep_sep' Finset.univ (fun k : KK => (atPos ER (kcell (c, k)) 0 ∅ 0 : sProp 𝕄)) (fun k => reached ER (kcell (c, k)) 0)),
    bigSep_sep', ← bigSep_univ_prod (fun ck : KIx => (reached ER (kcell ck) 0 : sProp 𝕄))]
  iintro ⟨HI, ⟨Hat, #HR⟩, Htok⟩
  ihave HK := (BI.bigSep_exists_pi Finset.univ (fun (ck : KIx) (κ : ℕ) => (cellInv ER (exRd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => bigSep Finset.univ fun k : KK => (atPos ER (kcell (c, k)) 0 ∅ 0 : sProp 𝕄)) payToks).symm)
    isplitl [Hat]; · iexact Hat
    iexact Htk

/-- Every device's semaphores, own and unscoped, become its positions and duties. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Equal credits, one per element. -/
theorem cred_pile (s : Finset (Fin 32)) (g : GSem nD τ sig) :
    (bigSep s fun _ => cred (tallyAt g () 1) : sProp 𝕄) = cred (tallyAt g () s.card) := by
  rw [← Pipeline.cred_finsetSum, Finset.sum_const]
  congr 1
  induction s.card with
  | zero => rw [zero_smul]; exact (tallyAt_zero _ _).symm
  | succ n ih => rw [succ_nsmul, ih]; exact tallyAt_add _ _ _ _

/-- Device `c` is credited what its peers owe it: 31 barrier signals and one block per offset. -/
theorem creds (c : Dev nD) :
    (Pipeline.launchCred O₀ c : sProp 𝕄) ⊢ iprop(cred (tallyAt (barCell c) () 31) ∗ bigSep (offs 1) fun d => cred (tallyAt (recvCell c d) () N)) := by
  have hsplit := Pipeline.launchCred_add (Name := ℕ) (U := UU) (Lvl := ℕ) (Val := Elt F) (fun c => OR c 1) (fun c => OB c 1) c
  have hR := Pipeline.launchCred_sum (Name := ℕ) (U := UU) (Lvl := ℕ) (Val := Elt F) (offs 1) (fun d c => (tallyAt (recvCell (fwd c d) d) () N : CellTallies nD τ sig Unit)) c
  have hB := Pipeline.launchCred_sum (Name := ℕ) (U := UU) (Lvl := ℕ) (Val := Elt F) (offs 1) (fun d c => (tallyAt (barCell (fwd c d)) () 1 : CellTallies nD τ sig Unit)) c
  have hcard : (offs 1).card = 31 := by decide
  refine (Entails.of_eq (hsplit.trans (congrArg₂ (fun P Q => iprop(P ∗ Q)) hR hB))).trans ?_
  rw [← hcard, ← cred_pile]
  iintro ⟨HR, HB⟩
  isplitl [HB]
  · iapply (show _ ⊢ _ from bigSep_mono fun d _ => Pipeline.launchCred_tallyAt (SemLoc.reg barS) (fun c => fwd c d) (fun c => bwd c d) (fun c => fwd_bwd c d) (fun c => bwd_fwd c d) () 1 c)
    iexact HB
  · iapply (show _ ⊢ _ from bigSep_mono fun d _ => Pipeline.launchCred_tallyAt (SemLoc.dma (recvS d)) (fun c => fwd c d) (fun c => bwd c d) (fun c => fwd_bwd c d) (fun c => bwd_fwd c d) () N c)
    iexact HR

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Ha, Hr⟩
  isplitl [Hs]; · iexact Hs
  isplitl [Ha]; · iexact Ha
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Ha, Hr, HzS, HzV, HzB⟩
  isplitl [HzB]; · iexact HzB
  isplitl [HzS HzV]
  · isplitl [HzS] <;> iassumption
  isplitl [Ha]; · iexact Ha
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

/-- What the arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the 32 devices, for any floats, from any memory with zero counters: every weakly fair run of the program
    terminates, with the arrays at the stated contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array holds after the run what it held before. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The result's one block is the whole array. -/
theorem out_emb (i : S8x256.Idx) : ((cfg0.win 5).blk t0_0).view.emb i = i := by
  funext a
  apply Fin.ext
  match a with
  | ⟨0, _⟩ => show 0 * 8 + 1 * (i 0).val = (i 0).val; omega
  | ⟨1, _⟩ => show 0 * 256 + 1 * (i 1).val = (i 1).val; omega

/-- The result's array holds device `c`'s eight rows. -/
theorem finalA_out (c : Dev nD) : finalA m ρ c 5 = outAt m ρ c :=
  (dats (F := F) m ρ 0 c).arrAt_eq_of_cover 5 (outAt m ρ c)
    (fun t _ => by obtain rfl := fin_N t; exact funext fun i => by rw [View.read_apply]; exact congrArg (outAt m ρ c) (out_emb i).symm)
    (fun i => ⟨t0_0, flush0_5 t0_0, by
      have h := ((cfg0.win 5).blk t0_0).view.emb_mem_set i
      rwa [out_emb i] at h⟩)

/-- The run as the claims speak of it: the result, the arguments, the counters. -/
theorem run_values : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  θ_run_mono (run_main m ρ) (fun r h => ⟨fun c => ⟨(h.1 c 5).trans (finalA_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl),
    (h.1 c 4).trans (finalA_in m ρ c 4 rfl)⟩, h.2⟩)

end Cert.KernelIdealRun

end
-- ==== Proof.RefValue.lean ====
/-
The reference's value at an index: the shared expert's product plus, for the one expert that the row names, its gate
times the row's product with that expert's matrix.
-/
module

public import proofs.«01_k».proof.Proof.Gen.ReferenceIdeal.Read
public import Idealize.ShloMosaic.Lib.ValueIdx
public import Idealize.ShloMosaic.Lib.ValueIdxCore
public import Idealize.ShloMosaic.Lib.Pipeline.Value

@[expose] public section

noncomputable section

namespace Cert.RefValue

open Cert.ReferenceIdeal Cert.ReferenceIdeal.Gen Cert.ReferenceIdeal.Read
open Idealize.ShloMosaic Idealize.ShloMosaic.ValueIdx

/-- The word that names expert `e`. -/
abbrev expertWord (e : Fin 64) : BitVec 32 := BitVec.ofNat 32 e.val

/-- A row's number, as a word, is not negative, so the wrap of negative indices leaves it. -/
theorem wrap_row : ∀ r : Fin 256, Scalar.select (IntOp.cmpi .slt (BitVec.ofNat 32 r.val) 0#32)
    (IntOp.addi (BitVec.ofNat 32 r.val) 256#32) (BitVec.ofNat 32 r.val) = BitVec.ofNat 32 r.val := by
  decide +kernel

/-- Nor is an expert's. -/
theorem wrap_expert : ∀ e : Fin 64, Scalar.select (IntOp.cmpi .slt (expertWord e) 0#32)
    (IntOp.addi (expertWord e) 64#32) (expertWord e) = expertWord e := by
  decide +kernel

/-- The row number read as a gather's clamped start is the row. -/
theorem clamp_row : ∀ r : Fin 256, min (BitVec.ofNat 32 r.val).toInt.toNat (256 - 1) = r.val := by decide +kernel

/-- The expert's word read as a gather's clamped start is the expert. -/
theorem clamp_expert : ∀ e : Fin 64, min (expertWord e).toInt.toNat (64 - 1) = e.val := by decide +kernel

variable (x0 : (⟨S256x128, .bf16⟩ : BufTy).Contents (Elt Ideal)) (x1 : (⟨S128x64, .bf16⟩ : BufTy).Contents (Elt Ideal))
  (x2 : (⟨S256x1, .i32⟩ : BufTy).Contents (Elt Ideal)) (x3 : (⟨S64x128x256, .bf16⟩ : BufTy).Contents (Elt Ideal))
  (x4 : (⟨S128x256, .bf16⟩ : BufTy).Contents (Elt Ideal))

/-- The wrapped row number at row `r`. -/
theorem v21_apply (r : Fin 256) : val_main_v21 (F := Ideal) (ix1 r) = BitVec.ofNat 32 r.val := by
  simp only [val_main_v21_apply, val_main_v18_apply, val_main_v20_apply, val_main_v16_apply, val_main_v17_apply,
    val_main_v19_apply, val_main_c_apply, val_main_c_1_apply]
  exact wrap_row r

/-- The index array flattened, at row `r`. -/
theorem v15_apply (r : Fin 256) : val_main_v15 (F := Ideal) x2 (ix1 r) = x2 (ix2 r 0) := by
  rw [val_main_v15_apply]
  congr 1
  funext a; apply Fin.ext
  match a with
  | ⟨0, _⟩ => show r.val / 1 = r.val; omega
  | ⟨1, _⟩ => rfl

variable {x2} {r : Fin 256} {e : Fin 64} (he : x2 (ix2 r 0) = expertWord e)
include he

/-- The wrapped expert index of a row that names expert `e`. -/
theorem v26_apply : val_main_v26 (F := Ideal) x2 (ix1 r) = expertWord e := by
  simp only [val_main_v26_apply, val_main_v23_apply, val_main_v25_apply, val_main_v22_apply,
    val_main_v24_apply, val_main_c_2_apply, val_main_c_3_apply, v15_apply, he]
  exact wrap_expert e

/-- The same for the copy of the chain that the gather of the matrices reads. -/
theorem v36_apply : val_main_v36 (F := Ideal) x2 (ix1 r) = expertWord e := by
  simp only [val_main_v36_apply, val_main_v33_apply, val_main_v35_apply, val_main_v32_apply,
    val_main_v34_apply, val_main_c_4_apply, val_main_c_5_apply, v15_apply, he]
  exact wrap_expert e

omit he in
/-- The pairs of start indices: the row number in the first column. -/
theorem v29_left (r : Fin 256) : val_main_v29 (F := Ideal) x2 (ix2 r 0) = BitVec.ofNat 32 r.val := by
  have h27 : val_main_v27 (F := Ideal) (ix2 r 0) = BitVec.ofNat 32 r.val := by
    rw [val_main_v27_apply, ← v21_apply r]
    exact congrArg _ (eq_ix1 _)
  rw [← h27]
  exact concatenate_pair_apply_left (s₁ := S256x1) (s₂ := S256x1) (t := S256x2) 1 _ _ _ (ix2 r 0) rfl (ix2 r 0)
    fun b => match b with
      | ⟨0, _⟩ => rfl
      | ⟨1, _⟩ => rfl

/-- … and the expert in the second. -/
theorem v29_right : val_main_v29 (F := Ideal) x2 (ix2 r 1) = expertWord e := by
  have h28 : val_main_v28 (F := Ideal) x2 (ix2 r 0) = expertWord e := by
    rw [val_main_v28_apply, ← v26_apply he]
    exact congrArg _ (eq_ix1 _)
  rw [← h28]
  exact concatenate_pair_apply_right (s₁ := S256x1) (s₂ := S256x1) (t := S256x2) 1 _ _ _ (ix2 r 1) rfl rfl (ix2 r 0)
    (fun b hb => match b with
      | ⟨0, _⟩ => rfl
      | ⟨1, _⟩ => absurd rfl hb) rfl

/-- The gate of a row that names expert `e`: the row's probability of `e`. -/
theorem v30_apply : val_main_v30 (F := Ideal) x0 x1 x2 (ix1 r) = val_main_v13 (F := Ideal) x0 x1 (ix2 r e) := by
  unfold val_main_v30 Host.gather
  congr 1
  funext a
  refine Fin.ext ?_
  show (gather_S256x64_S256x2_S256_n_01_n_n_01_1_11).start (ix1 r) (val_main_v29 (F := Ideal) x2) a
      + (gather_S256x64_S256x2_S256_n_01_n_n_01_1_11).batchCoord (ix1 r) a
      + (gather_S256x64_S256x2_S256_n_01_n_n_01_1_11).offCoord (ix1 r) a = _
  have hmem : a ∈ (gather_S256x64_S256x2_S256_n_01_n_n_01_1_11).startIndexMap := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  match a with
  | ⟨0, _⟩ =>
    have hsi : ∀ h, (gather_S256x64_S256x2_S256_n_01_n_n_01_1_11).siIdx (ix1 r)
        ⟨List.idxOf (0 : Fin 2) (gather_S256x64_S256x2_S256_n_01_n_n_01_1_11).startIndexMap, h⟩ = ix2 r 0 := by
      intro h; funext b; refine Fin.ext ?_
      match b with
      | ⟨0, _⟩ => rfl
      | ⟨1, _⟩ => rfl
    refine Eq.trans ?_ (clamp_row r)
    rw [← v29_left (x2 := x2) r]
    exact congrArg (fun j => min (val_main_v29 (F := Ideal) x2 j).toInt.toNat (256 - 1)) (hsi _)
  | ⟨1, _⟩ =>
    have hsi : ∀ h, (gather_S256x64_S256x2_S256_n_01_n_n_01_1_11).siIdx (ix1 r)
        ⟨List.idxOf (1 : Fin 2) (gather_S256x64_S256x2_S256_n_01_n_n_01_1_11).startIndexMap, h⟩ = ix2 r 1 := by
      intro h; funext b; refine Fin.ext ?_
      match b with
      | ⟨0, _⟩ => rfl
      | ⟨1, _⟩ => rfl
    refine Eq.trans ?_ (clamp_expert e)
    rw [← v29_right he]
    exact congrArg (fun j => min (val_main_v29 (F := Ideal) x2 j).toInt.toNat (64 - 1)) (hsi _)

/-- The matrix gathered for a row that names expert `e`: that expert's. -/
theorem v38_apply (k : Fin 128) (h : Fin 256) :
    val_main_v38 (F := Ideal) x2 x3 (ix3 r k h) = val_main_v2 (F := Ideal) x3 (ix3 e k h) := by
  unfold val_main_v38 Host.gather
  congr 1
  have h37 : val_main_v37 (F := Ideal) x2 (ix2 r 0) = expertWord e := by
    rw [val_main_v37_apply, ← v36_apply he]
    exact congrArg _ (eq_ix1 _)
  funext a
  refine Fin.ext ?_
  show (gather_S64x128x256_S256x1_S256x128x256_12_0_n_n_0_1_1128256).start (ix3 r k h) (val_main_v37 (F := Ideal) x2) a
      + (gather_S64x128x256_S256x1_S256x128x256_12_0_n_n_0_1_1128256).batchCoord (ix3 r k h) a
      + (gather_S64x128x256_S256x1_S256x128x256_12_0_n_n_0_1_1128256).offCoord (ix3 r k h) a = _
  rw [GatherDims.batchCoord_eq_zero _ _ _ List.not_mem_nil]
  match a with
  | ⟨0, _⟩ =>
    have hmem : (0 : Fin 3) ∈ (gather_S64x128x256_S256x1_S256x128x256_12_0_n_n_0_1_1128256).startIndexMap :=
      List.mem_cons_self
    have hoff := GatherDims.offCoord_eq_zero gather_S64x128x256_S256x1_S256x128x256_12_0_n_n_0_1_1128256 (ix3 r k h) (0 : Fin 3)
      (fun h => ((GatherDims.mem_sKept _ _).mp h).1 hmem)
    have hsi : ∀ h', (gather_S64x128x256_S256x1_S256x128x256_12_0_n_n_0_1_1128256).siIdx (ix3 r k h)
        ⟨List.idxOf (0 : Fin 3) (gather_S64x128x256_S256x1_S256x128x256_12_0_n_n_0_1_1128256).startIndexMap, h'⟩
          = ix2 r 0 := by
      intro h'; funext b; refine Fin.ext ?_
      match b with
      | ⟨0, _⟩ => rfl
      | ⟨1, _⟩ => rfl
    refine Eq.trans (congrArg (_ + ·) hoff) ?_
    refine Eq.trans ?_ (clamp_expert e)
    rw [← h37]
    show GatherDims.start gather_S64x128x256_S256x1_S256x128x256_12_0_n_n_0_1_1128256 (ix3 r k h) (val_main_v37 (F := Ideal) x2) (0 : Fin 3) + 0 + 0 = _
    simp only [Nat.add_zero]
    unfold GatherDims.start
    rw [dif_pos hmem]
    exact congrArg (fun j => min (val_main_v37 (F := Ideal) x2 j).toInt.toNat (64 - 1)) (hsi _)
  | ⟨1, _⟩ =>
    show GatherDims.start gather_S64x128x256_S256x1_S256x128x256_12_0_n_n_0_1_1128256 (ix3 r k h) (val_main_v37 (F := Ideal) x2) (1 : Fin 3) + 0 + k.val = k.val
    unfold GatherDims.start
    rw [dif_neg (by decide)]
    omega
  | ⟨2, _⟩ =>
    show GatherDims.start gather_S64x128x256_S256x1_S256x128x256_12_0_n_n_0_1_1128256 (ix3 r k h) (val_main_v37 (F := Ideal) x2) (2 : Fin 3) + 0 + h.val = h.val
    unfold GatherDims.start
    rw [dif_neg (by decide)]
    omega

/-- The reference at row `r` and column `h`, the row naming expert `e`. -/
theorem ref_apply (h : Fin 256) : val_main_v42 (F := Ideal) x0 x1 x2 x3 x4 (ix2 r h)
    = (∑ k : Fin 128, x0 (ix2 r k) * x4 (ix2 k h))
      + val_main_v13 (F := Ideal) x0 x1 (ix2 r e) * ∑ k : Fin 128, x0 (ix2 r k) * x3 (ix3 e k h) := by
  have h30 : val_main_v31 (F := Ideal) x0 x1 x2 (idx_main_v40 (ix2 r h)) = val_main_v13 (F := Ideal) x0 x1 (ix2 r e) := by
    rw [val_main_v31_apply, ← v30_apply x0 x1 he]
    congr 1
    exact eq_ix1 _
  have h14 : val_main_v14 (F := Ideal) x0 x4 (ix2 r h) = ∑ k : Fin 128, x0 (ix2 r k) * x4 (ix2 k h) := by
    rw [val_main_v14_apply]
    refine Finset.sum_congr rfl fun k _ => ?_
    exact congrArg₂ (fun a b => x0 a * x4 b) (eq_ix2 _) (eq_ix2 _)
  have h39 : val_main_v39 (F := Ideal) x0 x2 x3 (ix2 r h) = ∑ k : Fin 128, x0 (ix2 r k) * x3 (ix3 e k h) := by
    rw [val_main_v39_apply]
    refine Finset.sum_congr rfl fun k _ => ?_
    have e1 : val_main_v38 (F := Ideal) x2 x3 (ridx_main_v39 (ix2 r h) k) = x3 (ix3 e k h) :=
      (congrArg _ (eq_ix3 _)).trans (v38_apply x3 he k h)
    rw [e1]
    exact congrArg (fun a => x0 a * x3 (ix3 e k h)) (eq_ix2 _)
  rw [val_main_v42_apply, val_main_v41_apply, val_main_v40_apply, h30, h14, h39]
  rfl

end Cert.RefValue

end
-- ==== Proof.ValueKernelIdeal.lean ====
/-
The kernel's value at an index, over the extended reals: what each payload computes, the sum over the devices' shares,
and its equality with the reference's value where every row names an expert.
-/
module

public import proofs.«01_k».proof.Proof.LaunchKernelIdeal
public import proofs.«01_k».proof.Proof.RefValue
public import Idealize.ShloMosaic.Lib.MatmulPlain
public import Idealize.ShloMosaic.Lib.ValueLayout
public import Idealize.ShloMosaic.Lib.ValueLayoutCasts
public import Idealize.ShloMosaic.Lib.Layout

@[expose] public section

noncomputable section

namespace Cert.KernelIdealValue

open Cert.KernelIdeal Cert.KernelIdeal.Gen Cert.KernelIdealRun Cert.RefValue
open Idealize.ShloMosaic Idealize.ShloMosaic.TcCoe Idealize.ShloMosaic.ValueIdx

/-! ## Layout and reductions -/

/-- A column repeated along the rows' 256 places. -/
theorem column256_apply {α : Type} (x : S256x1.Idx → α) (r h : Fin 256) :
    broadcastTo S256x256 x broadcasts_S256x1_S256x256 (ix2 r h) = x (ix2 r 0) :=
  broadcastTo_apply x _ _ _ fun a => match a with
    | ⟨0, _⟩ => rfl
    | ⟨1, _⟩ => rfl

/-- A column repeated along the 64 experts. -/
theorem column64_apply {α : Type} (x : S256x1.Idx → α) (r : Fin 256) (e : Fin 64) :
    broadcastTo S256x64 x broadcasts_S256x1_S256x64 (ix2 r e) = x (ix2 r 0) :=
  broadcastTo_apply x _ _ _ fun a => match a with
    | ⟨0, _⟩ => rfl
    | ⟨1, _⟩ => rfl

/-- The place that a row's reduction reads. -/
theorem lift_row (r : Fin 256) (k : Fin 64) : reduces_S256x64_S256.lift (ix1 r) k = ix2 r k := by
  funext a; apply Fin.ext
  match a with
  | ⟨0, _⟩ => rfl
  | ⟨1, _⟩ => rfl

/-- The place that the sum over the received slots reads. -/
theorem lift_slot (q : Fin 8) (h : Fin 256) (k : Fin 31) : reduces_S31x8x256_S8x256.lift (ix2 q h) k = ix3 k q h := by
  funext a; apply Fin.ext
  match a with
  | ⟨0, _⟩ => rfl
  | ⟨1, _⟩ => rfl
  | ⟨2, _⟩ => rfl

/-- A row's sum, as a column. -/
theorem rowSum_apply (p : FVec Ideal S256x64 .f32) (r : Fin 256) :
    shapeCast S256x1 (multiReduction .add [1] S256 p 0x00000000#32 reduces_S256x64_S256 (.inl rfl) rfl)
      shapeCasts_S256_S256x1 (ix2 r 0) = ∑ k : Fin 64, p (ix2 r k) := by
  refine (shapeCast_a_a1_apply _ _ r 0).trans ?_
  refine (Ideal.multiReduction_add_single p _ _ _ _ _).trans ?_
  exact Finset.sum_congr rfl fun k _ => congrArg p (lift_row r k)

/-! ## The probabilities -/

/-- The router's scores, as the kernel computes them. -/
def scores (x : Vec Ideal S256x128 .bf16) (rw : Vec Ideal S128x64 .bf16) : FVec Ideal S256x64 .f32 :=
  matmul (φ₁ := .bf16) (φ₂ := .bf16) dot_S256x128_S128x64_S256x64_1_0_0_1_n_n none
    (shapeCast S256x128 x shapeCasts_S256x128_S256x128 : FVec Ideal S256x128 .bf16)
    (shapeCast S128x64 rw shapeCasts_S128x64_S128x64 : FVec Ideal S128x64 .bf16) (constant S256x64 .f32 0x00000000#32)

/-- The rows' greatest scores. -/
def rowMax (x : Vec Ideal S256x128 .bf16) (rw : Vec Ideal S128x64 .bf16) : FVec Ideal S256 .f32 :=
  multiReduction .maximumf [1] S256 (scores x rw) 0xFF800000#32 reduces_S256x64_S256 (.inl rfl) rfl

/-- The exponentials of the scores less their row's greatest. -/
def expScores (x : Vec Ideal S256x128 .bf16) (rw : Vec Ideal S128x64 .bf16) : FVec Ideal S256x64 .f32 :=
  exp (subf (scores x rw)
    (broadcastTo S256x64 (shapeCast S256x1 (rowMax x rw) shapeCasts_S256_S256x1) broadcasts_S256x1_S256x64))

theorem pay2_eq (x : Vec Ideal S256x128 .bf16) (rw : Vec Ideal S128x64 .bf16) :
    k0_pay2 x rw = divf (expScores x rw) (broadcastTo S256x64
      (shapeCast S256x1 (multiReduction .add [1] S256 (expScores x rw) 0x00000000#32 reduces_S256x64_S256 (.inl rfl) rfl)
        shapeCasts_S256_S256x1) broadcasts_S256x1_S256x64) := rfl

section Softmax
open Cert.ReferenceIdeal.Read

variable (x : Vec Ideal S256x128 .bf16) (rw : Vec Ideal S128x64 .bf16)

/-- The scores are the reference's. -/
theorem scores_eq : scores x rw = val_main_v4 (F := Ideal) x rw := by
  unfold scores
  rw [shapeCast_self, shapeCast_self]
  funext i
  refine (Ideal.matmul_constant_zero_apply (φ₁ := .bf16) (φ₂ := .bf16) dot_S256x128_S128x64_S256x64_1_0_0_1_n_n none x rw i).trans ?_
  unfold val_main_v4
  simp only [Host.dotGeneral]
  exact (Ideal.dotGeneral_apply (φ₁ := .f32) (φ₂ := .f32) Cert.ReferenceIdeal.dot_S256x128_S128x64_S256x64_1_0_0_1_n_n none _
    (val_main_v0 (F := Ideal) x) (val_main_v1 (F := Ideal) rw) i).symm

/-- So are the rows' greatest. -/
theorem rowMax_eq : rowMax x rw = val_main_v5 (F := Ideal) x rw := by
  unfold rowMax val_main_v5
  rw [scores_eq]
  generalize val_main_v4 (F := Ideal) x rw = y
  funext i
  refine (Ideal.multiReduction_maximumf_single (s := S256x64) (t := S256) (a := 1) y _ reduces_S256x64_S256 _ _ i).trans ?_
  exact (Host.reduce_eq_fold_single (s := S256x64) (t := S256) (a := 1) (max : EReal → EReal → EReal) y
    (val_main_cst (F := Ideal)) _ reduces_S256x64_S256 _ i).symm

/-- So are the exponentials. -/
theorem expScores_eq : expScores x rw = val_main_v9 (F := Ideal) x rw := by
  funext i
  rw [val_main_v9_apply, val_main_v8_apply, val_main_v7_apply, val_main_v6_apply, ← rowMax_eq, ← scores_eq]
  have hb : broadcastTo S256x64 (shapeCast S256x1 (rowMax x rw) shapeCasts_S256_S256x1) broadcasts_S256x1_S256x64 i
      = rowMax x rw (idx_main_v6 (idx_main_v7 i)) := by
    obtain ⟨r, e, rfl⟩ : ∃ (r : Fin 256) (e : Fin 64), i = ix2 r e := ⟨_, _, eq_ix2 i⟩
    refine (column64_apply _ r e).trans ((shapeCast_a_a1_apply _ _ r 0).trans ?_)
    exact congrArg _ (eq_ix1 _).symm
  rw [← hb]
  rfl

/-- The kernel's softmax of the router's scores is the reference's. -/
theorem probs_eq : k0_pay2 x rw = val_main_v13 (F := Ideal) x rw := by
  rw [pay2_eq]
  funext i
  rw [val_main_v13_apply, val_main_v12_apply, val_main_v11_apply, val_main_v10_apply, ← expScores_eq]
  have hb : broadcastTo S256x64 (shapeCast S256x1 (multiReduction .add [1] S256 (expScores x rw) 0x00000000#32
      reduces_S256x64_S256 (.inl rfl) rfl) shapeCasts_S256_S256x1) broadcasts_S256x1_S256x64 i
      = val_main_cst_0 (F := Ideal) (Shape.Idx.first Cert.ReferenceIdeal.Gen.facts.h_S_)
        + ∑ k : Fin 64, expScores x rw (idx_main_v10 (idx_main_v11 (idx_main_v12 i)) k) := by
    obtain ⟨r, e, rfl⟩ : ∃ (r : Fin 256) (e : Fin 64), i = ix2 r e := ⟨_, _, eq_ix2 i⟩
    refine (column64_apply _ r e).trans ((rowSum_apply _ r).trans ?_)
    have hz : val_main_cst_0 (F := Ideal) (Shape.Idx.first Cert.ReferenceIdeal.Gen.facts.h_S_) = 0 := Ideal.ofBits_zero_f32
    rw [hz, zero_add]
    exact Finset.sum_congr rfl fun k _ => congrArg _ (eq_ix2 _).symm
  rw [← hb]
  rfl

end Softmax

/-! ## The share of one device -/

/-- The 64 experts' words are distinct. -/
theorem expertWord_inj {e e' : Fin 64} : expertWord e = expertWord e' ↔ e = e' := by
  revert e e'; decide +kernel

/-- The expert that device `c` holds at place `j`. -/
def expertOf (c : Dev nD) (j : Fin 2) : Fin 64 := ⟨2 * c.val + j.val, by have := val_lt_dev c; have := j.isLt; omega⟩

theorem word_zero : ∀ c : Dev nD, Scalar.addi (Scalar.muli (word c) 2#32) 0#32 = expertWord (expertOf c 0) := by decide +kernel
theorem word_one : ∀ c : Dev nD, Scalar.addi (Scalar.muli (word c) 2#32) 1#32 = expertWord (expertOf c 1) := by decide +kernel

/-- A select on the equality of two experts' words. -/
theorem select_word {α : Type} (e e' : Fin 64) (a b : α) :
    Scalar.select (IntOp.cmpi .eq (expertWord e) (expertWord e')) a b = if e = e' then a else b := by
  by_cases h : e = e'
  · subst h
    have : IntOp.cmpi .eq (expertWord e) (expertWord e) = 1#1 := by revert e; decide +kernel
    rw [this, if_pos rfl, select_one]
  · have : ∀ e e' : Fin 64, ¬e = e' → IntOp.cmpi .eq (expertWord e) (expertWord e') = 0#1 := by decide +kernel
    rw [this e e' h, if_neg h, select_zero]

/-- The row's sum of the probabilities masked to one expert is that expert's probability. -/
theorem pick_apply (p : FVec Ideal S256x64 .f32) (e : Fin 64) (r : Fin 256) :
    shapeCast S256x1 (multiReduction .add [1] S256
      (select (cmpi .eq (iota .tc S256x64 32 [1] iota_S256x64_d1_w32) (broadcast S256x64 (expertWord e))) p
        (broadcast S256x64 (Scalar.ofBits (F := Ideal) .f32 0x00000000#32)))
      0x00000000#32 reduces_S256x64_S256 (.inl rfl) rfl) shapeCasts_S256_S256x1 (ix2 r 0) = p (ix2 r e) := by
  rw [rowSum_apply]
  refine (Finset.sum_congr rfl fun k _ => ?_ : _ = ∑ k : Fin 64, if e = k then p (ix2 r k) else 0).trans (by simp)
  have hi : iota .tc S256x64 32 [1] iota_S256x64_d1_w32 (ix2 r k) = expertWord k := by
    show BitVec.ofNat 32 (0 * 64 + k.val) = _
    rw [Nat.zero_mul, Nat.zero_add]
  show Scalar.select (IntOp.cmpi .eq (iota .tc S256x64 32 [1] iota_S256x64_d1_w32 (ix2 r k)) (expertWord e)) _ (Ideal.ofBits .f32 0x00000000#32) = _
  rw [hi, select_word, Ideal.ofBits_zero_f32]
  exact if_congr eq_comm rfl rfl

/-- A masked column: the value where the row names the expert, zero elsewhere. -/
theorem mask_apply (ix : IVec S256x1 32) (g : FVec Ideal S256x1 .f32) (e e' : Fin 64) (r : Fin 256)
    (he : ix (ix2 r 0) = expertWord e) :
    select (cmpi .eq ix (broadcast S256x1 (expertWord e'))) g
      (broadcast S256x1 (Scalar.ofBits (F := Ideal) .f32 0x00000000#32)) (ix2 r 0) = if e = e' then g (ix2 r 0) else 0 := by
  show Scalar.select (IntOp.cmpi .eq (ix (ix2 r 0)) (expertWord e')) _ (Ideal.ofBits .f32 0x00000000#32) = _
  rw [he, select_word, Ideal.ofBits_zero_f32]

/-- The product of the rows with one expert's matrix. -/
theorem expert_apply (x : FVec Ideal S256x128 .bf16) (w : Vec Ideal S1x128x256 .bf16) (r h : Fin 256) :
    matmul (φ₁ := .bf16) (φ₂ := .bf16) dot_S256x128_S128x256_S256x256_1_0_0_1_n_n none x
      (shapeCast S128x256 w shapeCasts_S1x128x256_S128x256 : FVec Ideal S128x256 .bf16)
      (constant S256x256 .f32 0x00000000#32) (ix2 r h) = ∑ k : Fin 128, x (ix2 r k) * w (ix3 0 k h) := by
  refine (Ideal.matmul_plain_apply (M := 256) (K := 128) (N := 256) none x _ _ r h).trans ?_
  rw [constant_apply, Ideal.ofBits_zero_f32, zero_add]
  exact Finset.sum_congr rfl fun k _ => congrArg (x (ix2 r k) * ·) (shapeCast_1ab_ab_apply w _ k h)

/-- The place of row `q` of block `p` in the whole result. -/
def rowOf (p : Fin 32) (q : Fin 8) : Fin 256 := ⟨8 * p.val + q.val, by have := p.isLt; have := q.isLt; omega⟩

/-- One device's share at row `q` of block `p` and column `h`, where that row names expert `e`. -/
theorem pay6_apply (c : Dev nD) (x : Vec Ideal S256x128 .bf16) (rw : Vec Ideal S128x64 .bf16) (ix : Vec Ideal S256x1 .i32)
    (w0 w1 : Vec Ideal S1x128x256 .bf16) (p : Fin 32) (q : Fin 8) (h : Fin 256) (e : Fin 64)
    (he : ix (ix2 (rowOf p q) 0) = expertWord e) :
    k0_pay6 (word c) (k0_pay1 x) (k0_pay2 x rw) (iota .tc S256x64 32 [1] iota_S256x64_d1_w32) (k0_pay3 ix) (k0_pay4 (F := Ideal))
      (Scalar.addi (Scalar.muli (word c) 2#32) 0#32) (k0_pay5 (word c) x rw) w0 w1 (ix3 p q h)
    = (if e = expertOf c 0 then k0_pay2 x rw (ix2 (rowOf p q) (expertOf c 0)) else 0)
        * (∑ k : Fin 128, x (ix2 (rowOf p q) k) * w0 (ix3 0 k h))
      + (if e = expertOf c 1 then k0_pay2 x rw (ix2 (rowOf p q) (expertOf c 1)) else 0)
        * (∑ k : Fin 128, x (ix2 (rowOf p q) k) * w1 (ix3 0 k h)) := by
  unfold k0_pay6 k0_pay5 k0_pay4 k0_pay3 k0_pay1
  simp only [shapeCast_self, word_zero, word_one]
  refine (shapeCast_apply _ _ (ix3 p q h) (ix2 (rowOf p q) h) ?_).trans ?_
  · rw [Shape.rowMajor_val_three, Shape.rowMajor_val_two]
    show (8 * p.val + q.val) * 256 + h.val = (p.val * 8 + q.val) * 256 + h.val
    omega
  rw [truncf_apply, addf_apply, addf_apply, mulf_apply, mulf_apply, column256_apply, column256_apply,
    mask_apply _ _ e _ _ he, mask_apply _ _ e _ _ he, pick_apply, pick_apply, expert_apply, expert_apply]
  rw [show broadcast S256x256 (Scalar.ofBits (F := Ideal) .f32 0x00000000#32) (ix2 (rowOf p q) h) = 0 from Ideal.ofBits_zero_f32,
    zero_add]

/-- The first part of a device's result: the shared expert's product and the device's own share of its rows. -/
theorem pay7_apply (x : Vec Ideal S8x128 .bf16) (sw : Vec Ideal S128x256 .bf16) (v : Vec Ideal S1x8x256 .bf16) (q : Fin 8) (h : Fin 256) :
    k0_pay7 x sw v (ix2 q h) = (∑ k : Fin 128, x (ix2 q k) * sw (ix2 k h)) + v (ix3 0 q h) := by
  unfold k0_pay7
  simp only [shapeCast_self]
  rw [addf_apply, extf_apply]
  refine congrArg₂ (· + ·) ?_ (shapeCast_1ab_ab_apply v _ q h)
  refine (Ideal.matmul_plain_apply (M := 8) (K := 128) (N := 256) none _ _ _ q h).trans ?_
  rw [constant_apply, Ideal.ofBits_zero_f32, zero_add]

/-- The whole of it: the shares received are added. -/
theorem pay8_apply (v : FVec Ideal S8x256 .f32) (u : Vec Ideal S31x8x256 .bf16) (q : Fin 8) (h : Fin 256) :
    k0_pay8 v u (ix2 q h) = v (ix2 q h) + ∑ d : Fin 31, u (ix3 d q h) := by
  unfold k0_pay8
  rw [addf_apply]
  refine congrArg (v (ix2 q h) + ·) ?_
  refine (Ideal.multiReduction_add_single _ _ _ _ _ _).trans ?_
  refine Finset.sum_congr rfl fun d _ => ?_
  rw [extf_apply]
  exact congrArg u (lift_slot q h d)

/-! ## The sum over the devices -/

/-- The device at offset `d` before `c`, as a bijection. -/
def bwdEquiv (c : Dev nD) : Fin 32 ≃ Dev nD where
  toFun d := bwd c d
  invFun s := ⟨(c.val + (32 - s.val)) % 32, Nat.mod_lt _ (by decide)⟩
  left_inv d := by have := val_lt_dev c; have := d.isLt; apply Fin.ext; simp only [bwd]; omega
  right_inv s := by have := val_lt_dev c; have := val_lt_dev s; apply Fin.ext; simp only [bwd]; omega

/-- What a device adds of its own slot and of the 31 it receives is what all 32 devices computed. -/
theorem sum_devices (c : Dev nD) (f : Dev nD → EReal) :
    f c + ∑ d : Fin 31, f (bwd c d.succ) = ∑ s : Dev nD, f s := by
  rw [← Equiv.sum_comp (bwdEquiv c) f, Fin.sum_univ_succ]
  refine congrArg (f · + _) ?_
  have := val_lt_dev c
  apply Fin.ext
  show c.val = (c.val + (32 - 0)) % 32
  omega

/-- Over all devices only the one that holds the expert `e` contributes, and only by that expert. -/
theorem sum_experts (P Y : Fin 64 → EReal) (e : Fin 64) :
    ∑ s : Dev nD, ((if e = expertOf s 0 then P (expertOf s 0) else 0) * Y (expertOf s 0)
      + (if e = expertOf s 1 then P (expertOf s 1) else 0) * Y (expertOf s 1)) = P e * Y e := by
  have hlt := e.isLt
  have hd : e.val / 2 < nD := by show e.val / 2 < 32; omega
  rw [Finset.sum_eq_single (⟨e.val / 2, hd⟩ : Dev nD)]
  · rcases Nat.mod_two_eq_zero_or_one e.val with h | h
    · have h0 : expertOf ⟨e.val / 2, hd⟩ 0 = e := by apply Fin.ext; show 2 * (e.val / 2) + 0 = e.val; omega
      have h1 : ¬e = expertOf ⟨e.val / 2, hd⟩ 1 := fun h' => by
        have := congrArg Fin.val h'; change e.val = 2 * (e.val / 2) + 1 at this; omega
      rw [h0, if_pos rfl, if_neg h1, zero_mul, add_zero]
    · have h1 : expertOf ⟨e.val / 2, hd⟩ 1 = e := by apply Fin.ext; show 2 * (e.val / 2) + 1 = e.val; omega
      have h0 : ¬e = expertOf ⟨e.val / 2, hd⟩ 0 := fun h' => by
        have := congrArg Fin.val h'; change e.val = 2 * (e.val / 2) + 0 at this; omega
      rw [h1, if_pos rfl, if_neg h0, zero_mul, zero_add]
  · intro s _ hs
    have hne : s.val ≠ e.val / 2 := fun h => hs (Fin.ext h)
    have h0 : ¬e = expertOf s 0 := fun h' => by
      have := congrArg Fin.val h'; change e.val = 2 * s.val + 0 at this; omega
    have h1 : ¬e = expertOf s 1 := fun h' => by
      have := congrArg Fin.val h'; change e.val = 2 * s.val + 1 at this; omega
    rw [if_neg h0, if_neg h1, zero_mul, zero_mul, add_zero]
  · exact fun h => absurd (Finset.mem_univ _) h

/-! ## The run's contents -/

variable (m : (ℓ : Loc nD τ sig) → Buf (Elt Ideal) ℓ) (ρ : Dev nD → PrngReg)

theorem xst_eq (c : Dev nD) : xst m ρ c = m ((c : Thread nD τ).loc main_arg0) := by
  funext i
  refine congrArg (m ((c : Thread nD τ).loc main_arg0)) (?_ : ((cfg0.win 0).blk t0_0).view.emb i = i)
  funext a; apply Fin.ext
  match a with
  | ⟨0, _⟩ => show 0 * 256 + 1 * (i 0).val = (i 0).val; omega
  | ⟨1, _⟩ => show 0 * 128 + 1 * (i 1).val = (i 1).val; omega

theorem rwst_eq (c : Dev nD) : rwst m ρ c = m ((c : Thread nD τ).loc main_arg1) := by
  funext i
  refine congrArg (m ((c : Thread nD τ).loc main_arg1)) (?_ : ((cfg0.win 1).blk t0_0).view.emb i = i)
  funext a; apply Fin.ext
  match a with
  | ⟨0, _⟩ => show 0 * 128 + 1 * (i 0).val = (i 0).val; omega
  | ⟨1, _⟩ => show 0 * 64 + 1 * (i 1).val = (i 1).val; omega

theorem ixst_eq (c : Dev nD) : ixst m ρ c = m ((c : Thread nD τ).loc main_arg2) := by
  funext i
  refine congrArg (m ((c : Thread nD τ).loc main_arg2)) (?_ : ((cfg0.win 2).blk t0_0).view.emb i = i)
  funext a; apply Fin.ext
  match a with
  | ⟨0, _⟩ => show 0 * 256 + 1 * (i 0).val = (i 0).val; omega
  | ⟨1, _⟩ => show 0 * 1 + 1 * (i 1).val = (i 1).val; omega

theorem ewst_eq (c : Dev nD) : ewst m ρ c = m ((c : Thread nD τ).loc main_arg3) := by
  funext i
  refine congrArg (m ((c : Thread nD τ).loc main_arg3)) (?_ : ((cfg0.win 3).blk t0_0).view.emb i = i)
  funext a; apply Fin.ext
  match a with
  | ⟨0, _⟩ => show 0 * 2 + 1 * (i 0).val = (i 0).val; omega
  | ⟨1, _⟩ => show 0 * 128 + 1 * (i 1).val = (i 1).val; omega
  | ⟨2, _⟩ => show 0 * 256 + 1 * (i 2).val = (i 2).val; omega

theorem swst_eq (c : Dev nD) : swst m ρ c = m ((c : Thread nD τ).loc main_arg4) := by
  funext i
  refine congrArg (m ((c : Thread nD τ).loc main_arg4)) (?_ : ((cfg0.win 4).blk t0_0).view.emb i = i)
  funext a; apply Fin.ext
  match a with
  | ⟨0, _⟩ => show 0 * 128 + 1 * (i 0).val = (i 0).val; omega
  | ⟨1, _⟩ => show 0 * 256 + 1 * (i 1).val = (i 1).val; omega

/-- The experts' weights are cut among the 32 devices two by two. -/
theorem experts_tiled : Layout.Tiles ⟨3, ![2, 128, 256]⟩ ⟨3, ![64, 128, 256]⟩ 0 32 := by decide

variable {X : Vec Ideal S256x128 .bf16} {RW : Vec Ideal S128x64 .bf16} {IX : Vec Ideal S256x1 .i32}
  {EW : (⟨3, ![64, 128, 256]⟩ : Shape).Idx → EReal} {SW : Vec Ideal S128x256 .bf16}
  (hX : ∀ c : Dev nD, m ((c : Thread nD τ).loc main_arg0) = X)
  (hR : ∀ c : Dev nD, m ((c : Thread nD τ).loc main_arg1) = RW)
  (hI : ∀ c : Dev nD, m ((c : Thread nD τ).loc main_arg2) = IX)
  (hE : ∀ c : Dev nD, m ((c : Thread nD τ).loc main_arg3) = Layout.block ⟨3, ![2, 128, 256]⟩ ⟨3, ![64, 128, 256]⟩ 0 32 c EW experts_tiled)
  (hS : ∀ c : Dev nD, m ((c : Thread nD τ).loc main_arg4) = SW)

include hX hR hI hE in
/-- Device `s`'s share at row `q` of block `p`, from the whole arrays. -/
theorem partAt_apply (s : Dev nD) (p : Fin 32) (q : Fin 8) (h : Fin 256) (e : Fin 64)
    (he : IX (ix2 (rowOf p q) 0) = expertWord e) :
    partAt m ρ s (ix3 p q h)
    = (if e = expertOf s 0 then k0_pay2 X RW (ix2 (rowOf p q) (expertOf s 0)) else 0)
        * (∑ k : Fin 128, X (ix2 (rowOf p q) k) * EW (ix3 (expertOf s 0) k h))
      + (if e = expertOf s 1 then k0_pay2 X RW (ix2 (rowOf p q) (expertOf s 1)) else 0)
        * (∑ k : Fin 128, X (ix2 (rowOf p q) k) * EW (ix3 (expertOf s 1) k h)) := by
  unfold partAt
  rw [xst_eq, rwst_eq, ixst_eq, ewst_eq, hX, hR, hI, hE]
  refine (pay6_apply s X RW IX _ _ p q h e he).trans ?_
  refine congrArg₂ (· + ·) (congrArg₂ (· * ·) rfl (Finset.sum_congr rfl fun k _ => congrArg₂ (· * ·) rfl ?_))
    (congrArg₂ (· * ·) rfl (Finset.sum_congr rfl fun k _ => congrArg₂ (· * ·) rfl ?_))
  · refine congrArg EW (funext fun a => Fin.ext ?_)
    match a with
    | ⟨0, _⟩ => show s.val * 2 + (0 + 1 * 0) = 2 * s.val + 0; omega
    | ⟨1, _⟩ => show 0 + 1 * k.val = k.val; omega
    | ⟨2, _⟩ => show 0 + 1 * h.val = h.val; omega
  · refine congrArg EW (funext fun a => Fin.ext ?_)
    match a with
    | ⟨0, _⟩ => show s.val * 2 + (1 + 1 * 0) = 2 * s.val + 1; omega
    | ⟨1, _⟩ => show 0 + 1 * k.val = k.val; omega
    | ⟨2, _⟩ => show 0 + 1 * h.val = h.val; omega

include hX hS in
/-- A device's result: the shared expert's product and every device's share of its rows. -/
theorem outAt_apply (c : Dev nD) (q : Fin 8) (h : Fin 256) :
    outAt m ρ c (ix2 q h) = (∑ k : Fin 128, X (ix2 (rowOf c q) k) * SW (ix2 k h))
      + ∑ s : Dev nD, partAt m ρ s (ix3 (c : Fin 32) q h) := by
  unfold outAt
  rw [pay8_apply, pay7_apply, xst_eq, swst_eq, hX, hS, ← sum_devices c, ← add_assoc]
  refine congrArg₂ (· + ·) (congrArg₂ (· + ·) (Finset.sum_congr rfl fun k _ => congrArg₂ (· * ·) ?_ rfl) ?_)
    (Finset.sum_congr rfl fun d _ => ?_)
  · refine congrArg X (funext fun a => Fin.ext ?_)
    have hoff := congrFun (k0_off2_eq c)
    match a with
    | ⟨0, _⟩ =>
      show k0_off2 c 0 + 1 * q.val = 8 * c.val + q.val
      rw [hoff 0, one_mul]; rfl
    | ⟨1, _⟩ =>
      show k0_off2 c 1 + 1 * k.val = k.val
      rw [hoff 1, one_mul]; exact Nat.zero_add _
  · refine congrArg (partAt m ρ c) (funext fun a => Fin.ext ?_)
    have hoff := congrFun (k0_off3_eq c)
    match a with
    | ⟨0, _⟩ =>
      show k0_off3 c 0 + 1 * 0 = c.val
      rw [hoff 0]; rfl
    | ⟨1, _⟩ =>
      show k0_off3 c 1 + 1 * q.val = q.val
      rw [hoff 1, one_mul]; exact Nat.zero_add _
    | ⟨2, _⟩ =>
      show k0_off3 c 2 + 1 * h.val = h.val
      rw [hoff 2, one_mul]; exact Nat.zero_add _
  · have hd : (⟨1 + 1 * d.val, by have := d.isLt; omega⟩ : Fin 32) = d.succ := Fin.ext (by show 1 + 1 * d.val = d.val + 1; omega)
    rw [← hd]
    refine congrArg (partAt m ρ (bwd c ⟨1 + 1 * d.val, _⟩)) (funext fun a => Fin.ext ?_)
    match a with
    | ⟨0, _⟩ => rfl
    | ⟨1, _⟩ => show 0 + 1 * q.val = q.val; omega
    | ⟨2, _⟩ => show 0 + 1 * h.val = h.val; omega

include hX hR hI hE hS in
/-- Where every row names an expert, each device ends with its eight rows of the reference's value. -/
theorem outAt_eq (hix : ∀ r : Fin 256, ∃ e : Fin 64, IX (ix2 r 0) = expertWord e) (c : Dev nD) :
    outAt m ρ c = Layout.block ⟨2, ![8, 256]⟩ ⟨2, ![256, 256]⟩ 0 32 c
      (Cert.ReferenceIdeal.Read.val_main_v42 (F := Ideal) X RW IX EW SW) := by
  funext i
  obtain ⟨q, h, rfl⟩ : ∃ (q : Fin 8) (h : Fin 256), i = ix2 q h := ⟨_, _, eq_ix2 i⟩
  obtain ⟨e, he⟩ := hix (rowOf c q)
  rw [outAt_apply m ρ hX hS]
  simp only [partAt_apply m ρ hX hR hI hE _ _ q h e he]
  rw [sum_experts (fun e => k0_pay2 X RW (ix2 (rowOf c q) e)) (fun e => ∑ k : Fin 128, X (ix2 (rowOf c q) k) * EW (ix3 e k h)) e]
  rw [probs_eq]
  refine (ref_apply X RW EW SW he h).symm.trans ?_
  refine congrArg (Cert.ReferenceIdeal.Read.val_main_v42 (F := Ideal) X RW IX EW SW) (funext fun a => Fin.ext ?_)
  match a with
  | ⟨0, _⟩ => show 8 * c.val + q.val = c.val * 8 + q.val; omega
  | ⟨1, _⟩ => rfl

end Cert.KernelIdealValue

end
-- ==== Proof.lean ====
/-
The certificate: the three frames, the idealization, and the value of the kernel over its 32 devices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.LaunchKernel
public import proofs.«01_k».proof.Proof.LaunchKernelIdeal
public import proofs.«01_k».proof.Proof.ValueKernelIdeal
public import Idealize.ShloMosaic.Lib.Affine
public import Idealize.ShloMosaic.Adequacy
public import Idealize.ShloMosaic.Init

@[expose] public section

noncomputable section

namespace Cert.Proof

open Idealize.ShloMosaic Idealize.ShloMosaic.TcCoe Idealize.SL.Sem

/-- The kernel, at words, runs to the end on every device without a fault, leaves its arguments as they were and every
    semaphore counter at zero. -/
theorem frame_kernel : @Cert.quiescent_Kernel Cert.Kernel.Gen.facts := fun m g _ =>
  θ_run_mono (Cert.KernelRun.run_values m g) fun _ h => ⟨fun c => (h.1 c).2, h.2⟩

/-- The same of the kernel read over the extended reals. -/
theorem frame_kernelIdeal : @Cert.quiescent_KernelIdeal Cert.KernelIdeal.Gen.facts := fun m g _ =>
  θ_run_mono (Cert.KernelIdealRun.run_values m g) fun _ h => ⟨fun c => (h.1 c).2, h.2⟩

/-- The reference runs to the end and leaves its arguments as they were; it has no semaphore. -/
theorem frame_referenceIdeal : @Cert.quiescent_ReferenceIdeal Cert.ReferenceIdeal.Gen.facts := fun m g _ =>
  θ_run_mono (Cert.ReferenceIdeal.Value.run m g) fun r h =>
    ⟨fun c => (h c).2, sem_eq_zero_of_no_sems (by decide) r.2⟩

/-- The precondition's predicate has its shape relations. -/
theorem pre_facts : Cert.Pre_expert_named_KernelIdeal.Facts := ⟨by decide⟩

/-- What the precondition says of a device's copy of the route: every row names one of the 64 experts. -/
theorem expert_of_pre {x0 x1 x2 x3 x4}
    (h : @Cert.Pre_expert_named_KernelIdeal.fn pre_facts Idealize.ShloMosaic.Ideal _ x0 x1 x2 x3 x4 = fun _ => 1#1) (r : Fin 256) :
    ∃ e : Fin 64, x2 (ValueIdx.ix2 r 0) = Cert.RefValue.expertWord e := by
  have hr := congrFun h (ValueIdx.ix2 r 0)
  change IntOp.andi (IntOp.cmpi .sge (x2 (ValueIdx.ix2 r 0)) 0#32) (IntOp.cmpi .sle (x2 (ValueIdx.ix2 r 0)) 63#32) = 1#1 at hr
  generalize x2 (ValueIdx.ix2 r 0) = w at hr ⊢
  obtain ⟨h0, h1⟩ := IntOp.andi_eq_one.1 hr
  have h0 := IntOp.cmpi_sge.1 h0
  have h1 := IntOp.cmpi_sle.1 h1
  have e0 : (0#32 : BitVec 32).toInt = 0 := by decide
  have e63 : (63#32 : BitVec 32).toInt = 63 := by decide
  rw [e0] at h0
  rw [e63] at h1
  have hw := BitVec.toInt_eq_toNat_cond w
  have hlt := w.isLt
  refine ⟨⟨w.toNat, by split at hw <;> omega⟩, BitVec.eq_of_toNat_eq ?_⟩
  show w.toNat = (BitVec.ofNat 32 w.toNat).toNat
  rw [BitVec.toNat_ofNat, Nat.mod_eq_of_lt hlt]

/-- Where every row names an expert, the kernel's 32 devices end with the 32 blocks of rows of the reference's result. -/
theorem algebraic : @Cert.algebraic_KernelIdeal_ReferenceIdeal_pre_expert_named_KernelIdeal Cert.KernelIdeal.Gen.facts
    Cert.ReferenceIdeal.Gen.facts pre_facts := by
  intro m g m' g' hpre hargs
  refine ⟨Cert.ReferenceIdeal.Read.val_main_v42 (F := Idealize.ShloMosaic.Ideal)
      (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3))
      (m' (((0 : Dev Cert.ReferenceIdeal.nD) : Thread Cert.ReferenceIdeal.nD Cert.ReferenceIdeal.τ).loc Cert.ReferenceIdeal.main_arg4)),
    θ_run_mono (Cert.KernelIdealRun.run_values m g) fun _ h c => ⟨(h.1 c).1.trans ?_, (h.1 c).2⟩,
    θ_run_mono (Cert.ReferenceIdeal.Value.run m' g') fun _ h =>
      ⟨(h 0).1.trans (Cert.ReferenceIdeal.Read.val_main_v42_eq _ _ _ _ _), (h 0).2⟩⟩
  refine Cert.KernelIdealValue.outAt_eq m g (fun c => (hargs c).1) (fun c => (hargs c).2.1) (fun c => (hargs c).2.2.1)
    (fun c => (hargs c).2.2.2.1) (fun c => (hargs c).2.2.2.2) (fun r => ?_) c
  obtain ⟨e, he⟩ := expert_of_pre (hpre c) r
  exact ⟨e, (congrFun (hargs c).2.2.1 _).symm.trans he⟩

theorem claim : Cert.Claim :=
  ⟨Cert.Kernel.Gen.facts, Cert.KernelIdeal.Gen.facts, Cert.ReferenceIdeal.Gen.facts, ⟨by decide⟩, ⟨by decide⟩,
    frame_kernel, frame_kernelIdeal, fun m g _ => frame_kernelIdeal m g trivial, frame_referenceIdeal,
    fun m g _ => frame_referenceIdeal m g trivial, trivial, algebraic⟩

end Cert.Proof

end
